-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 4096]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S1x2048 : Shape := ⟨2, ![1, 2048]⟩
abbrev S4 : Shape := ⟨1, ![4]⟩
abbrev S2048x1 : Shape := ⟨2, ![2048, 1]⟩
abbrev S_ : Shape := ⟨0, ![]⟩
abbrev S1 : Shape := ⟨1, ![1]⟩
abbrev S512x2048 : Shape := ⟨2, ![512, 2048]⟩
abbrev S511x2048 : Shape := ⟨2, ![511, 2048]⟩
abbrev S512x1 : Shape := ⟨2, ![512, 1]⟩
abbrev S512x2047 : Shape := ⟨2, ![512, 2047]⟩

abbrev nBuf : Space → Nat
  | .hbm => 2
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_18 : BitVec 32 := 0#32
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.subi c1_i32_15 v2
  let c2_i32_17 : BitVec 32 := 2#32
  let v29 : BitVec 32 := Scalar.muli v28 c2_i32_17
  let v30 : BitVec 32 := Scalar.addi c0_i32_18 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v31 : BitVec 32 := Scalar.muli v5 c1_i32_19
  let v32 : BitVec 32 := Scalar.addi v30 v31
  v32.toNat
def k0_dev2 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v34 : BitVec 32 := Scalar.muli v2 c2_i32_22
  let v35 : BitVec 32 := Scalar.addi c0_i32_23 v34
  let c1_i32_20 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.subi c1_i32_20 v5
  let c1_i32_24 : BitVec 32 := 1#32
  let v36 : BitVec 32 := Scalar.muli v33 c1_i32_24
  let v37 : BitVec 32 := Scalar.addi v35 v36
  v37.toNat
def k0_dev3 (d0 : Dev nD) : Nat :=
  let c0_i32_29 : BitVec 32 := 0#32
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v25 : BitVec 32 := Scalar.subi c1_i32_13 v2
  let c2_i32_28 : BitVec 32 := 2#32
  let v38 : BitVec 32 := Scalar.muli v25 c2_i32_28
  let v39 : BitVec 32 := Scalar.addi c0_i32_29 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v40 : BitVec 32 := Scalar.muli v5 c1_i32_30
  let v41 : BitVec 32 := Scalar.addi v39 v40
  v41.toNat
def k0_dev4 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v46 : BitVec 32 := Scalar.muli v2 c2_i32_32
  let v47 : BitVec 32 := Scalar.addi c0_i32_33 v46
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v26 : BitVec 32 := Scalar.subi c1_i32_14 v5
  let c1_i32_34 : BitVec 32 := 1#32
  let v48 : BitVec 32 := Scalar.muli v26 c1_i32_34
  let v49 : BitVec 32 := Scalar.addi v47 v48
  v49.toNat
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4094x4094 : Shape := ⟨2, ![4094, 4094]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4094x4094, .f32⟩
  | .hbm, ⟨2, _⟩ => ⟨S_, .f32⟩
  | .hbm, ⟨3, _⟩ => ⟨S4094x4094, .f32⟩
  | .hbm, ⟨4, _⟩ => ⟨S4094x4094, .f32⟩
  | .hbm, ⟨5, _⟩ => ⟨S4094x4094, .f32⟩
  | .hbm, ⟨6, _⟩ => ⟨S_, .f32⟩
  | .hbm, ⟨7, _⟩ => ⟨S4094x4094, .f32⟩
  | .hbm, ⟨8, _⟩ => ⟨S4094x4094, .f32⟩
  | .hbm, ⟨9, _⟩ => ⟨S4094x4094, .f32⟩
  | .hbm, ⟨10, _⟩ => ⟨S4094x4094, .f32⟩
  | .hbm, ⟨11, _⟩ => ⟨S_, .f32⟩
  | .hbm, ⟨12, _⟩ => ⟨S4094x4094, .f32⟩
  | .hbm, ⟨13, _⟩ => ⟨S4094x4094, .f32⟩
  | .hbm, ⟨14, _⟩ => ⟨S4094x4094, .f32⟩
  | .hbm, ⟨15, _⟩ => ⟨S4094x4094, .f32⟩
  | .hbm, ⟨16, _⟩ => ⟨S_, .f32⟩
  | .hbm, ⟨17, _⟩ => ⟨S4094x4094, .f32⟩
  | .hbm, ⟨18, _⟩ => ⟨S4094x4094, .f32⟩
  | .hbm, ⟨19, _⟩ => ⟨S4094x4094, .f32⟩
  | .hbm, ⟨20, _⟩ => ⟨S4094x4094, .f32⟩
  | .hbm, ⟨21, _⟩ => ⟨S_, .f32⟩
  | .hbm, ⟨22, _⟩ => ⟨S4094x4094, .f32⟩
  | .hbm, ⟨23, _⟩ => ⟨S4094x4094, .f32⟩
  | .hbm, ⟨24, _⟩ => ⟨S4094x4094, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Protocol.lean ====
/-
  The exchange of halo edges on the 2 x 2 mesh as a protocol of rounds.

  Direction `false` is the ROW exchange: device `c` and the device of the other mesh row (`peer false c`) swap the edge
  ROWS of their blocks. Direction `true` is the COLUMN exchange with the device of the other mesh column (`peer true c`).
  Both peers are involutions, so a transfer goes and one comes back between the same two devices.

  A device has five cells: the runtime's barrier semaphore and, per direction, a send and a receive DMA semaphore. The
  barrier cell has one duty per direction `d`, of one unit, paid by `peer d c` at its entry; what that duty hands over is
  the landing buffer of direction `d` on `peer d c`. A send cell's duty hands the packed edge back to its owner; a receive
  cell's duty hands the landing buffer, now holding the edge that the peer packed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.FrameBody
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the exchange's, whose duties are the two directions -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at launch: any memory, every counter at zero, any generator registers. -/
def s₀ : MemSt nD τ sig (Elt F) := ⟨m, fun _ => 0, ρ⟩

/-! ## The two peers -/

set_option backward.proofsInPublic true in
/-- The device across: the other mesh row for `false`, the other mesh column for `true`. -/
def peer (d : Bool) (c : Dev nD) : Dev nD := match d with
  | false => ⟨(c.val + 2) % 4, Nat.mod_lt _ (by decide)⟩
  | true => ⟨(c.val / 2 * 2 + (c.val + 1) % 2) % 4, Nat.mod_lt _ (by decide)⟩

theorem peer_peer (d : Bool) (c : Dev nD) : peer d (peer d c) = c := by revert c d; decide

/-- The four device chains of the kernel: the two signals and the two transfers name the row peer, then the column peer. -/
theorem dev1_eq (c : Dev nD) : (⟨k0_dev1 c, k0_dev1_lt c⟩ : Dev nD) = peer false c :=
  Fin.ext ((k0_dev1_eq c).trans (by revert c; decide))
theorem dev2_eq (c : Dev nD) : (⟨k0_dev2 c, k0_dev2_lt c⟩ : Dev nD) = peer true c :=
  Fin.ext ((k0_dev2_eq c).trans (by revert c; decide))
theorem dev3_eq (c : Dev nD) : (⟨k0_dev3 c, k0_dev3_lt c⟩ : Dev nD) = peer false c :=
  Fin.ext ((k0_dev3_eq c).trans (by revert c; decide))
theorem dev4_eq (c : Dev nD) : (⟨k0_dev4 c, k0_dev4_lt c⟩ : Dev nD) = peer true c :=
  Fin.ext ((k0_dev4_eq c).trans (by revert c; decide))

/-- A peer map as a rearrangement of the mesh. -/
def across (d : Bool) : Dev nD ≃ Dev nD := ⟨peer d, peer d, peer_peer d, peer_peer d⟩

/-! ## Buffers, semaphores, cells -/

abbrev xM : Memref sig .tc .vmem S2048x2048 .f32 := Memref.whole cc0_stg0_0
abbrev oM : Memref sig .tc .vmem S2048x2048 .f32 := Memref.whole cc0_stg1_0
/-- The packed edge row and where the peer's lands; the packed edge column (laid out as a row) and where the peer's lands. -/
abbrev rowOut : Memref sig .tc .vmem S1x2048 .f32 := Memref.whole cc0_scratch0
abbrev rowIn : Memref sig .tc .vmem S1x2048 .f32 := Memref.whole cc0_scratch1
abbrev colOut : Memref sig .tc .vmem S1x2048 .f32 := Memref.whole cc0_scratch2
abbrev colIn : Memref sig .tc .vmem S1x2048 .f32 := Memref.whole cc0_scratch3

/-- The runtime's barrier semaphore of collective id 0. -/
abbrev barS : Sem sig := (SemArray.scalar (sig.barrier 0 rfl) : Sems sig S_).sem
/-- The DMA semaphores of direction `d`: counting the bytes that left, and the bytes that landed. -/
def sendS (d : Bool) : DmaSem sig := match d with | false => ⟨2, by decide⟩ | true => ⟨4, by decide⟩
def recvS (d : Bool) : DmaSem sig := match d with | false => ⟨3, by decide⟩ | true => ⟨5, by decide⟩

/-- The kernel names them as elements of its array of four. -/
theorem sem0_eq : ((cc0_scratch4.slice (Rect.unit (s := S4) ![0] S1.size inb_S4_S1_0)).squeeze S_ squeezes_S1_S_).sem = sendS false := rfl
theorem sem1_eq : ((cc0_scratch4.slice (Rect.unit (s := S4) ![1] S1.size inb_S4_S1_1)).squeeze S_ squeezes_S1_S_).sem = recvS false := rfl
theorem sem2_eq : ((cc0_scratch4.slice (Rect.unit (s := S4) ![2] S1.size inb_S4_S1_2)).squeeze S_ squeezes_S1_S_).sem = sendS true := rfl
theorem sem3_eq : ((cc0_scratch4.slice (Rect.unit (s := S4) ![3] S1.size inb_S4_S1_3)).squeeze S_ squeezes_S1_S_).sem = recvS true := rfl

abbrev barCell (c : Dev nD) : GSem nD τ sig := ((c : Thread nD τ), .reg barS)
abbrev sendCell (d : Bool) (c : Dev nD) : GSem nD τ sig := ((c : Thread nD τ), .dma (sendS d))
abbrev recvCell (d : Bool) (c : Dev nD) : GSem nD τ sig := ((c : Thread nD τ), .dma (recvS d))

/-- The kernel's own four semaphores, and all five of the exchange. -/
abbrev osem : Fin 4 → SemLoc sig := fun | 0 => .dma (sendS false) | 1 => .dma (recvS false) | 2 => .dma (sendS true) | 3 => .dma (recvS true)
abbrev csem : Fin 5 → SemLoc sig := fun | 0 => .reg barS | 1 => .dma (sendS false) | 2 => .dma (recvS false) | 3 => .dma (sendS true) | 4 => .dma (recvS true)
abbrev kcell (ck : Dev nD × Fin 5) : GSem nD τ sig := ((ck.1 : Thread nD τ), csem ck.2)
/-- The places of a direction's send and receive cells among the five. -/
def sendIx (d : Bool) : Fin 5 := match d with | false => 1 | true => 3
def recvIx (d : Bool) : Fin 5 := match d with | false => 2 | true => 4

theorem kcell_send (d : Bool) (c : Dev nD) : kcell (c, sendIx d) = sendCell d c := by cases d <;> rfl
theorem kcell_recv (d : Bool) (c : Dev nD) : kcell (c, recvIx d) = recvCell d c := by cases d <;> rfl

/-- The credit of one edge's transfer. -/
abbrev N : ℕ := (rowIn : Memref sig .tc .vmem S1x2048 .f32).view.dmaCredit
theorem N_pos : 0 < N := View.dmaCredit_pos _ (by decide)

/-! ## Contents -/

/-- An edge of a block as it travels, and a block. -/
abbrev Edge (F : FTy → Type) : Type := S1x2048.Idx → Elt F .f32
abbrev Grid (F : FTy → Type) : Type := S2048x2048.Idx → Elt F .f32

/-- Device `c`'s block of the operand, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` packs for direction `d`: the edge of its block that faces its peer. -/
def packed (d : Bool) (c : Dev nD) : Edge F := match d with
  | false => k0_pay5 c (View.ld (xstg m ρ c) (Rect.unit (s := S2048x2048) ![2047, 0] S1x2048.size inb_S2048x2048_S1x2048_2047_0))
      (View.ld (xstg m ρ c) (Rect.unit (s := S2048x2048) ![0, 0] S1x2048.size inb_S2048x2048_S1x2048_0_0))
  | true => k0_pay6 c (View.ld (xstg m ρ c) (Rect.unit (s := S2048x2048) ![0, 2047] S2048x1.size inb_S2048x2048_S2048x1_0_2047))
      (View.ld (xstg m ρ c) (Rect.unit (s := S2048x2048) ![0, 0] S2048x1.size inb_S2048x2048_S2048x1_0_0))

/-- The packed edge of direction `d` on device `c`, held whole. -/
def outPts (d : Bool) (c : Dev nD) (f : Edge F) : sProp 𝕄 := match d with
  | false => ((c : Thread nD τ).loc cc0_scratch0) ↦{fullShare} f
  | true => ((c : Thread nD τ).loc cc0_scratch2) ↦{fullShare} f
/-- The landing buffer of direction `d` on device `c`, held whole. -/
def inPts (d : Bool) (c : Dev nD) (f : Edge F) : sProp 𝕄 := match d with
  | false => ((c : Thread nD τ).loc cc0_scratch1) ↦{fullShare} f
  | true => ((c : Thread nD τ).loc cc0_scratch3) ↦{fullShare} f

omit [FloatOps F] in
instance outPts_storable (d : Bool) (c : Dev nD) (f : Edge F) : BI.Storable (upEmb : UEmb _ 𝕄) (outPts d c f) := by
  cases d <;> (dsimp only [outPts]; infer_instance)
omit [FloatOps F] in
instance inPts_storable (d : Bool) (c : Dev nD) (f : Edge F) : BI.Storable (upEmb : UEmb _ 𝕄) (inPts d c f) := by
  cases d <;> (dsimp only [inPts]; infer_instance)

/-! ## The schedule -/

/-- What `peer d c`'s signal hands `c`: the landing buffer of direction `d` over there. -/
def barPay (d : Bool) (c : Dev nD) : sProp 𝕄 := iprop(∃ f, inPts d (peer d c) f)

/-- What a DMA cell's round hands its device. -/
def dmaPay (q : ℕ) (c : Dev nD) : sProp 𝕄 := match q with
  | 2 => outPts false c (packed m ρ false c)
  | 3 => inPts false c (packed m ρ false (peer false c))
  | 4 => outPts true c (packed m ρ true c)
  | 5 => inPts true c (packed m ρ true (peer true c))
  | _ => iprop(emp)

/-- The duties of a semaphore's one round: both directions at the barrier, one at an exchange DMA semaphore. -/
def dutiesOf (s : SemLoc sig) : Finset Bool := match s with
  | .reg _ => Finset.univ
  | .dma q => if 2 ≤ q.val then {false} else ∅

/-- One round per cell. -/
def haloRd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := match g.2 with | .reg _ => barPay d g.1.1 | .dma q => dmaPay m ρ q.val g.1.1
  amount_pos g _ _ _ := by
    rcases g with ⟨t, _ | _⟩
    · exact Nat.one_pos
    · exact N_pos

instance haloRd_payload_storable (g : GSem nD τ sig) (r : ℕ) (d : Bool) :
    BI.Storable (upEmb : UEmb _ 𝕄) ((haloRd (F := F) m ρ).payload g r d) := by
  rcases g with ⟨t, _ | q⟩
  · show BI.Storable upEmb (barPay d t.1)
    unfold barPay; infer_instance
  · show BI.Storable upEmb (dmaPay m ρ q.val t.1)
    unfold dmaPay; split <;> infer_instance

section Tables
variable (c : Dev nD) (d : Bool)

theorem duties_bar : (haloRd (F := F) m ρ).duties (barCell c) 0 = Finset.univ := rfl
theorem duties_send : (haloRd (F := F) m ρ).duties (sendCell d c) 0 = {false} := by
  cases d <;> rfl
theorem duties_recv : (haloRd (F := F) m ρ).duties (recvCell d c) 0 = {false} := by
  cases d <;> rfl
theorem duties_later (g : GSem nD τ sig) : ∀ r, 1 ≤ r → (haloRd (F := F) m ρ).duties g r = ∅ :=
  fun r hr => if_neg fun h => by omega

theorem amount_bar (b : Bool) : (haloRd (F := F) m ρ).amount (barCell c) 0 b = 1 := rfl
theorem amount_send (b : Bool) : (haloRd (F := F) m ρ).amount (sendCell d c) 0 b = N := rfl
theorem amount_recv (b : Bool) : (haloRd (F := F) m ρ).amount (recvCell d c) 0 b = N := rfl

theorem payload_bar (b : Bool) : (haloRd (F := F) m ρ).payload (barCell c) 0 b = barPay b c := rfl
theorem payload_send (b : Bool) : (haloRd (F := F) m ρ).payload (sendCell d c) 0 b = outPts d c (packed m ρ d c) := by cases d <;> rfl
theorem payload_recv (b : Bool) : (haloRd (F := F) m ρ).payload (recvCell d c) 0 b = inPts d c (packed m ρ d (peer d c)) := by cases d <;> rfl

theorem expect_bar : (haloRd (F := F) m ρ).expect (barCell c) 0 = 2 := by
  unfold Schedule.expect Schedule.amountOf
  rw [duties_bar, Finset.sum_congr rfl fun b _ => amount_bar m ρ c b, Finset.sum_const, Finset.card_univ, Fintype.card_bool, smul_eq_mul]
theorem expect_send : (haloRd (F := F) m ρ).expect (sendCell d c) 0 = N := by
  unfold Schedule.expect Schedule.amountOf; rw [duties_send, Finset.sum_singleton, amount_send]
theorem expect_recv : (haloRd (F := F) m ρ).expect (recvCell d c) 0 = N := by
  unfold Schedule.expect Schedule.amountOf; rw [duties_recv, Finset.sum_singleton, amount_recv]

/-- What a whole round of each cell hands over. -/
theorem rest_bar : bigSep ((haloRd (F := F) m ρ).duties (barCell c) 0 \ ∅) (fun b => (haloRd (F := F) m ρ).payload (barCell c) 0 b)
    = iprop(barPay false c ∗ barPay true c) := by
  rw [Finset.sdiff_empty, duties_bar, bigSep_univ_eq_bigSepL [false, true] (by decide) (by decide), bigSepL_cons_cons, bigSepL_singleton]
  rfl
theorem rest_send : bigSep ((haloRd (F := F) m ρ).duties (sendCell d c) 0 \ ∅) (fun b => (haloRd (F := F) m ρ).payload (sendCell d c) 0 b)
    = outPts d c (packed m ρ d c) := by
  rw [Finset.sdiff_empty, duties_send, bigSep_singleton, payload_send]
theorem rest_recv : bigSep ((haloRd (F := F) m ρ).duties (recvCell d c) 0 \ ∅) (fun b => (haloRd (F := F) m ρ).payload (recvCell d c) 0 b)
    = inPts d c (packed m ρ d (peer d c)) := by
  rw [Finset.sdiff_empty, duties_recv, bigSep_singleton, payload_recv]

end Tables

/-! ## What a device owes at launch, and the levels of the cells -/

/-- The dues of device `c`, the last to be paid innermost: the column edge, the row edge, the column peer's barrier unit,
    the row peer's barrier unit. -/
def O₃ (c : Dev nD) : CellTallies nD τ sig Unit := tallyAt (recvCell true (peer true c)) () N
def O₂ (c : Dev nD) : CellTallies nD τ sig Unit := O₃ c + tallyAt (recvCell false (peer false c)) () N
def O₁ (c : Dev nD) : CellTallies nD τ sig Unit := O₂ c + tallyAt (barCell (peer true c)) () 1
def O₀ (c : Dev nD) : CellTallies nD τ sig Unit := O₁ c + tallyAt (barCell (peer false c)) () 1

def L (g : GSem nD τ sig) : Finset Unit := if g.1.2 = .tc then {()} else ∅
/-- Barrier cells at 1, the receive cells at 2, all others (staging, sends) at 0. -/
def lv (g : GSem nD τ sig) (_ : Unit) : ℕ := match g.2 with
  | .reg _ => 1
  | .dma q => if q = recvS false ∨ q = recvS true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (d : Bool) (c : Dev nD) (u : Unit) : lv (recvCell d c) u = 2 := by cases d <;> rfl

/-- A cell at which something is owed past the two signals is a receive cell. -/
theorem O₂_pos {c : Dev nD} {g : GSem nD τ sig} {u : Unit} (h : 0 < O₂ c g u) : ∃ d, g = recvCell d (peer d c) := by
  unfold O₂ O₃ at h
  rw [Pi.add_apply, Finsupp.add_apply, tallyAt_apply, tallyAt_apply] at h
  by_contra hn
  rw [not_exists] at hn
  rw [if_neg (fun h' => hn true h'.1), if_neg (fun h' => hn false h'.1)] at h
  exact Nat.lt_irrefl 0 h

/-- A cell at which something is owed at launch is a receive cell or a barrier cell. -/
theorem O₀_pos {c : Dev nD} {g : GSem nD τ sig} {u : Unit} (h : 0 < O₀ c g u) :
    (∃ d, g = recvCell d (peer d c)) ∨ ∃ d, g = barCell (peer d c) := by
  by_contra hn
  rw [not_or] at hn
  have h2 : O₂ c g u = 0 := Nat.eq_zero_of_not_pos fun h' => hn.1 (O₂_pos h')
  unfold O₀ O₁ at h
  rw [Pi.add_apply, Finsupp.add_apply, Pi.add_apply, Finsupp.add_apply, tallyAt_apply, tallyAt_apply, h2,
    if_neg (fun h' => hn.2 ⟨true, h'.1⟩), if_neg (fun h' => hn.2 ⟨false, h'.1⟩)] at h
  exact Nat.lt_irrefl 0 h

/-- A wait on a DMA cell that is no receive cell is allowed while the launch's dues stand, and when none stands. -/
theorem mayWait_stage (c : Dev nD) (q : DmaSem sig) (hq : ¬(q = recvS false ∨ q = recvS true)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, rfl⟩ | ⟨d, rfl⟩ <;> exact Finset.mem_singleton_self _)
      (fun p hp => by rw [Finset.mem_singleton.mp hp]; exact Nat.le_of_eq (if_neg hq))
      (fun g u hg => by
        rcases O₀_pos hg with ⟨d, rfl⟩ | ⟨d, rfl⟩
        · rw [lv_recv]; decide
        · rw [lv_bar]; decide)
  · rw [MayWait_zero]; iintro -; iempintro

/-- At its barrier a device owes only the two edges, whose cells lie above. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by obtain ⟨d, rfl⟩ := O₂_pos hg; exact Finset.mem_singleton_self _)
    (fun p hp => by rw [Finset.mem_singleton.mp hp]; exact Nat.le_refl 1)
    (fun g u hg => by obtain ⟨d, rfl⟩ := O₂_pos hg; rw [lv_recv]; decide)

/-! ## What a device starts from -/

/-- The invariants device `c` opens, under the names `K`: its own five cells, both peers' barrier cells, and the receive
    cell of each direction over there. -/
def invs (K : Dev nD × Fin 5 → ℕ) (c : Dev nD) : sProp 𝕄 :=
  iprop(cellInv ER (haloRd m ρ) (K (c, 0)) (barCell c)
    ∗ cellInv ER (haloRd m ρ) (K (c, 1)) (sendCell false c) ∗ cellInv ER (haloRd m ρ) (K (c, 2)) (recvCell false c)
    ∗ cellInv ER (haloRd m ρ) (K (c, 3)) (sendCell true c) ∗ cellInv ER (haloRd m ρ) (K (c, 4)) (recvCell true c)
    ∗ cellInv ER (haloRd m ρ) (K (peer false c, 0)) (barCell (peer false c)) ∗ cellInv ER (haloRd m ρ) (K (peer true c, 0)) (barCell (peer true c))
    ∗ cellInv ER (haloRd m ρ) (K (peer false c, 2)) (recvCell false (peer false c)) ∗ cellInv ER (haloRd m ρ) (K (peer true c, 4)) (recvCell true (peer true c)))

instance invs_persistent (K : Dev nD × Fin 5 → ℕ) (c : Dev nD) : BI.Persistent (invs m ρ K c) := by unfold invs; infer_instance

/-- The marks of round 0 at the cells that device `c` pays. -/
def marks (c : Dev nD) : sProp 𝕄 :=
  iprop(reached ER (barCell (peer false c)) 0 ∗ reached ER (barCell (peer true c)) 0
    ∗ reached ER (recvCell false (peer false c)) 0 ∗ reached ER (recvCell true (peer true c)) 0
    ∗ reached ER (sendCell false c) 0 ∗ reached ER (sendCell true c) 0)

instance marks_persistent (c : Dev nD) : BI.Persistent (marks (F := F) c) := by unfold marks; infer_instance

/-- The positions of device `c` at its own five cells. -/
def places (c : Dev nD) : sProp 𝕄 :=
  iprop(atPos ER (barCell c) 0 ∅ 0 ∗ atPos ER (sendCell false c) 0 ∅ 0 ∗ atPos ER (recvCell false c) 0 ∅ 0
    ∗ atPos ER (sendCell true c) 0 ∅ 0 ∗ atPos ER (recvCell true c) 0 ∅ 0)

/-- The tokens of the duties that device `c` pays. -/
def payToks (c : Dev nD) : sProp 𝕄 :=
  iprop(dutyTok ER (barCell (peer false c)) 0 false ∗ dutyTok ER (barCell (peer true c)) 0 true
    ∗ dutyTok ER (recvCell false (peer false c)) 0 false ∗ dutyTok ER (recvCell true (peer true c)) 0 false
    ∗ dutyTok ER (sendCell false c) 0 false ∗ dutyTok ER (sendCell true c) 0 false)

def ghost (K : Dev nD × Fin 5 → ℕ) (c : Dev nD) : sProp 𝕄 := iprop(invs m ρ K c ∗ marks c ∗ places c ∗ payToks c)

/-- What the body starts from: the ghost state at some names, the credit that others owe its cells, the level facts. -/
def start (c : Dev nD) : sProp 𝕄 :=
  iprop((∃ K, ghost m ρ K c) ∗ (cred (tallyAt (barCell c) () 2) ∗ cred (tallyAt (recvCell false c) () N) ∗ cred (tallyAt (recvCell true c) () N)) ∗ levAts L lv)

/-- The four edge buffers at any contents. -/
def edges (c : Dev nD) : sProp 𝕄 :=
  iprop((∃ f, outPts false c f) ∗ (∃ f, inPts false c f) ∗ (∃ f, outPts true c f) ∗ (∃ f, inPts true c f))

/-- The five counters back at zero. -/
def settled (c : Dev nD) : sProp 𝕄 :=
  iprop(semVal (barCell c) 0 ∗ semVal (sendCell false c) 0 ∗ semVal (recvCell false c) 0 ∗ semVal (sendCell true c) 0 ∗ semVal (recvCell true c) 0)

end Cert.Halo

end
-- ==== Proof.Blocks.lean ====
/-
  What the kernel leaves in its output block, as a function of its own block `X`, the halo row `row` and the halo column
  `col` (laid out as a row) that its peers sent. Four stores of 512 rows write the five-point stencil of `X` everywhere,
  with the halo row standing in above the first and below the last row, and the halo column before the first and behind
  the last column; four conditional stores then put `X`'s own boundary rows and columns back.
-/
module

public import proofs.«01_k».proof.Proof.Protocol
public import Idealize.ShloMosaic.Lib.PointwiseCore
public import Idealize.ShloMosaic.Lib.WritesUnit

@[expose] public section

set_option maxRecDepth 16384

noncomputable section

namespace Cert.Halo

open Cert.KernelIdeal Cert.KernelIdeal.Gen
open Idealize.ShloMosaic
open Idealize.ShloMosaic.Pointwise

variable {F : FTy → Type} [FloatOps F]

/-! ## The stencil -/

/-- The neighbour above an element: the halo row's above the first row. -/
def above (X : Grid F) (row : Edge F) (i j : Fin 2048) : Elt F .f32 :=
  if h : i.val = 0 then row (ix2 (0 : Fin 1) j) else X (ix2 (⟨i.val - 1, by omega⟩ : Fin 2048) j)
/-- Below: the halo row's below the last row. -/
def below (X : Grid F) (row : Edge F) (i j : Fin 2048) : Elt F .f32 :=
  if h : i.val = 2047 then row (ix2 (0 : Fin 1) j) else X (ix2 (⟨i.val + 1, by omega⟩ : Fin 2048) j)
/-- Before: the halo column's before the first column. -/
def before (X : Grid F) (col : Edge F) (i j : Fin 2048) : Elt F .f32 :=
  if h : j.val = 0 then col (ix2 (0 : Fin 1) i) else X (ix2 i (⟨j.val - 1, by omega⟩ : Fin 2048))
/-- Behind: the halo column's behind the last column. -/
def behind (X : Grid F) (col : Edge F) (i j : Fin 2048) : Elt F .f32 :=
  if h : j.val = 2047 then col (ix2 (0 : Fin 1) i) else X (ix2 i (⟨j.val + 1, by omega⟩ : Fin 2048))

/-- Half of the centre and an eighth of its four neighbours, summed as the kernel sums. -/
def mix (ce up dn lf rt : Elt F .f32) : Elt F .f32 :=
  FloatOps.addf (FloatOps.mulf (FloatOps.ofBits .f32 0x3F000000#32) ce)
    (FloatOps.mulf (FloatOps.ofBits .f32 0x3E000000#32) (FloatOps.addf (FloatOps.addf up dn) (FloatOps.addf lf rt)))

def stencil (X : Grid F) (row col : Edge F) : Grid F := fun y =>
  mix (X y) (above X row (y 0) (y 1)) (below X row (y 0) (y 1)) (before X col (y 0) (y 1)) (behind X col (y 0) (y 1))

/-! ## The four blocks of rows -/

abbrev rows (o : ℕ) (h : ∀ a, (![o, 0] : Fin 2 → ℕ) a + S512x2048.size a ≤ S2048x2048.size a) : Rect S2048x2048 :=
  Rect.unit (s := S2048x2048) ![o, 0] S512x2048.size h
abbrev r₁ : Rect S2048x2048 := rows 0 inb_S2048x2048_S512x2048_0_0
abbrev r₂ : Rect S2048x2048 := rows 512 inb_S2048x2048_S512x2048_512_0
abbrev r₃ : Rect S2048x2048 := rows 1024 inb_S2048x2048_S512x2048_1024_0
abbrev r₄ : Rect S2048x2048 := rows 1536 inb_S2048x2048_S512x2048_1536_0

/-- The first block of rows as the kernel computes it. -/
abbrev block₁ (X : Grid F) (row col : Edge F) : FVec F S512x2048 .f32 :=
  k0_pay11 (k0_pay8 (View.ld X (Rect.unit (s := S2048x2048) ![0, 0] S512x2048.size inb_S2048x2048_S512x2048_0_0)))
    (k0_pay9 col row (View.ld X (Rect.unit (s := S2048x2048) ![0, 0] S511x2048.size inb_S2048x2048_S511x2048_0_0))
      (View.ld X (Rect.unit (s := S2048x2048) ![1, 0] S512x2048.size inb_S2048x2048_S512x2048_1_0))
      (View.ld X (Rect.unit (s := S2048x2048) ![0, 0] S512x2047.size inb_S2048x2048_S512x2047_0_0))
      (View.ld X (Rect.unit (s := S2048x2048) ![0, 1] S512x2047.size inb_S2048x2048_S512x2047_0_1))) k0_pay10

/-- The second. -/
abbrev block₂ (X : Grid F) (col : Edge F) : FVec F S512x2048 .f32 :=
  k0_pay12 (k0_pay7 col) (View.ld X (Rect.unit (s := S2048x2048) ![512, 0] S512x2048.size inb_S2048x2048_S512x2048_512_0))
    (View.ld X (Rect.unit (s := S2048x2048) ![511, 0] S512x2048.size inb_S2048x2048_S512x2048_511_0))
    (View.ld X (Rect.unit (s := S2048x2048) ![513, 0] S512x2048.size inb_S2048x2048_S512x2048_513_0))
    (View.ld X (Rect.unit (s := S2048x2048) ![512, 0] S512x2047.size inb_S2048x2048_S512x2047_512_0))
    (View.ld X (Rect.unit (s := S2048x2048) ![512, 1] S512x2047.size inb_S2048x2048_S512x2047_512_1))

/-- The third. -/
abbrev block₃ (X : Grid F) (col : Edge F) : FVec F S512x2048 .f32 :=
  k0_pay17 (k0_pay7 col) (k0_pay13 (View.ld X (Rect.unit (s := S2048x2048) ![1024, 0] S512x2048.size inb_S2048x2048_S512x2048_1024_0)))
    (k0_pay14 (View.ld X (Rect.unit (s := S2048x2048) ![1023, 0] S512x2048.size inb_S2048x2048_S512x2048_1023_0)))
    (k0_pay15 (View.ld X (Rect.unit (s := S2048x2048) ![1025, 0] S512x2048.size inb_S2048x2048_S512x2048_1025_0)))
    (k0_pay16 (k0_pay7 col))
    (View.ld X (Rect.unit (s := S2048x2048) ![1024, 0] S512x2047.size inb_S2048x2048_S512x2047_1024_0))
    (View.ld X (Rect.unit (s := S2048x2048) ![1024, 1] S512x2047.size inb_S2048x2048_S512x2047_1024_1))

/-- The last. -/
abbrev block₄ (X : Grid F) (row col : Edge F) : FVec F S512x2048 .f32 :=
  k0_pay18 (k0_pay7 col) (View.ld X (Rect.unit (s := S2048x2048) ![1536, 0] S512x2048.size inb_S2048x2048_S512x2048_1536_0))
    (View.ld X (Rect.unit (s := S2048x2048) ![1535, 0] S512x2048.size inb_S2048x2048_S512x2048_1535_0))
    (View.ld X (Rect.unit (s := S2048x2048) ![1537, 0] S511x2048.size inb_S2048x2048_S511x2048_1537_0)) row
    (View.ld X (Rect.unit (s := S2048x2048) ![1536, 0] S512x2047.size inb_S2048x2048_S512x2047_1536_0))
    (View.ld X (Rect.unit (s := S2048x2048) ![1536, 1] S512x2047.size inb_S2048x2048_S512x2047_1536_1))

omit [FloatOps F] in
/-- Two reads of a vector over a rank-2 shape agree if the coordinates do. -/
theorem read_congr {a b : ℕ} (X : (⟨2, ![a, b]⟩ : Shape).Idx → Elt F .f32) {i i' : Fin a} {j j' : Fin b} (hi : i.val = i'.val) (hj : j.val = j'.val) :
    X (ix2 i j) = X (ix2 i' j') := by rw [Fin.ext hi, Fin.ext hj]

/-- Element `(i, j)` of the rows from `o` on is element `(o + i, j)` of the block. -/
theorem rows_emb (o : ℕ) (h) (i : Fin 512) (j : Fin 2048) (hi : o + i.val < 2048) :
    (rows o h).emb (ix2 i j) = ix2 (⟨o + i.val, hi⟩ : Fin 2048) j := by
  funext a
  refine Fin.ext ?_
  match a with
  | 0 => show o + 1 * i.val = o + i.val; omega
  | 1 => show 0 + 1 * j.val = j.val; omega

theorem mix_congr {ce up dn lf rt ce' up' dn' lf' rt' : Elt F .f32} (hc : ce = ce') (hu : up = up') (hd : dn = dn') (hl : lf = lf') (hr : rt = rt') :
    mix ce up dn lf rt = mix ce' up' dn' lf' rt' := by subst hc hu hd hl hr; rfl

/-- The stencil at an element given by its coordinates. -/
theorem stencil_ix2 (X : Grid F) (row col : Edge F) (i j : Fin 2048) :
    stencil X row col (ix2 i j) = mix (X (ix2 i j)) (above X row i j) (below X row i j) (before X col i j) (behind X col i j) := rfl

/-- Each block is the stencil on its rows: the first, whose first row takes the halo row from above; -/
theorem block₁_eq (X : Grid F) (row col : Edge F) (x : r₁.shape.Idx) : block₁ X row col x = stencil X row col (r₁.emb x) := by
  obtain ⟨i, j, rfl⟩ : ∃ (i : Fin 512) (j : Fin 2048), x = ix2 i j := ⟨x 0, x 1, eq_ix2 x⟩
  rw [rows_emb 0 _ i j (by omega), stencil_ix2]
  pointwise [block₁, k0_pay11, k0_pay8, k0_pay9, k0_pay10, k0_pay7]
  refine mix_congr ?_ ?_ ?_ ?_ ?_ <;> (try unfold above) <;> (try unfold below) <;> (try unfold before) <;> (try unfold behind) <;>
    (repeat' split) <;> first | exact read_congr _ (by first | rfl | omega | (dsimp only; omega)) (by first | rfl | omega | (dsimp only; omega)) | (exfalso; (try dsimp only at *); omega)

/-- the second; -/
theorem block₂_eq (X : Grid F) (row col : Edge F) (x : r₂.shape.Idx) : block₂ X col x = stencil X row col (r₂.emb x) := by
  obtain ⟨i, j, rfl⟩ : ∃ (i : Fin 512) (j : Fin 2048), x = ix2 i j := ⟨x 0, x 1, eq_ix2 x⟩
  rw [rows_emb 512 _ i j (by omega), stencil_ix2]
  pointwise [block₂, k0_pay12, k0_pay7]
  refine mix_congr ?_ ?_ ?_ ?_ ?_ <;> (try unfold above) <;> (try unfold below) <;> (try unfold before) <;> (try unfold behind) <;>
    (repeat' split) <;> first | exact read_congr _ (by first | rfl | omega | (dsimp only; omega)) (by first | rfl | omega | (dsimp only; omega)) | (exfalso; (try dsimp only at *); omega)

/-- the third; -/
theorem block₃_eq (X : Grid F) (row col : Edge F) (x : r₃.shape.Idx) : block₃ X col x = stencil X row col (r₃.emb x) := by
  obtain ⟨i, j, rfl⟩ : ∃ (i : Fin 512) (j : Fin 2048), x = ix2 i j := ⟨x 0, x 1, eq_ix2 x⟩
  rw [rows_emb 1024 _ i j (by omega), stencil_ix2]
  pointwise [block₃, k0_pay17, k0_pay13, k0_pay14, k0_pay15, k0_pay16, k0_pay7]
  refine mix_congr ?_ ?_ ?_ ?_ ?_ <;> (try unfold above) <;> (try unfold below) <;> (try unfold before) <;> (try unfold behind) <;>
    (repeat' split) <;> first | exact read_congr _ (by first | rfl | omega | (dsimp only; omega)) (by first | rfl | omega | (dsimp only; omega)) | (exfalso; (try dsimp only at *); omega)

/-- the last, whose last row takes the halo row from below. -/
theorem block₄_eq (X : Grid F) (row col : Edge F) (x : r₄.shape.Idx) : block₄ X row col x = stencil X row col (r₄.emb x) := by
  obtain ⟨i, j, rfl⟩ : ∃ (i : Fin 512) (j : Fin 2048), x = ix2 i j := ⟨x 0, x 1, eq_ix2 x⟩
  rw [rows_emb 1536 _ i j (by omega), stencil_ix2]
  pointwise [block₄, k0_pay18, k0_pay7]
  refine mix_congr ?_ ?_ ?_ ?_ ?_ <;> (try unfold above) <;> (try unfold below) <;> (try unfold before) <;> (try unfold behind) <;>
    (repeat' split) <;> first | exact read_congr _ (by first | rfl | omega | (dsimp only; omega)) (by first | rfl | omega | (dsimp only; omega)) | (exfalso; (try dsimp only at *); omega)

/-- The four stores leave the stencil, whatever the block held. -/
theorem written (X f : Grid F) (row col : Edge F) :
    (oM : Memref sig .tc .vmem S2048x2048 .f32).view.writes (Elt F) f
      [⟨r₄, block₄ X row col⟩, ⟨r₃, block₃ X col⟩, ⟨r₂, block₂ X col⟩, ⟨r₁, block₁ X row col⟩] = stencil X row col := by
  have h := fun y => View.read_writes_apply_of_pieces (v := (oM : Memref sig .tc .vmem S2048x2048 .f32).view) (Val := Elt F) f (stencil X row col)
    [⟨r₄, block₄ X row col⟩, ⟨r₃, block₃ X col⟩, ⟨r₂, block₂ X col⟩, ⟨r₁, block₁ X row col⟩]
    (fun p hp => by
      rcases List.mem_cons.mp hp with rfl | hp
      · exact block₄_eq X row col
      rcases List.mem_cons.mp hp with rfl | hp
      · exact block₃_eq X row col
      rcases List.mem_cons.mp hp with rfl | hp
      · exact block₂_eq X row col
      rcases List.mem_cons.mp hp with rfl | hp
      · exact block₁_eq X row col
      cases hp) y (View.cover_of_tiled (s := S2048x2048) _ ![512, 2048] rfl y)
  exact (View.read_whole cc0_stg1_0 _).symm.trans (funext h)

/-! ## The conditional stores -/

/-- `f` with `X`'s own elements put back on the rectangle `r`, if `P` holds. -/
def patch (P : Prop) [Decidable P] (r : Rect S2048x2048) (X f : Grid F) : Grid F := fun y => if P ∧ y ∈ r.set then X y else f y

omit [FloatOps F] in
/-- A store of `X`'s own elements through `r`. -/
theorem patched (P : Prop) [Decidable P] (hP : P) (r : Rect S2048x2048) (X f : Grid F) (w : r.shape.Idx → Elt F .f32) (hw : ∀ x, w x = X (r.emb x)) :
    ((oM : Memref sig .tc .vmem S2048x2048 .f32).access r : View sig .tc _ _ _).write (Elt F) f w Finset.univ = patch P r X f := by
  have h : (oM : Memref sig .tc .vmem S2048x2048 .f32).view.read (Elt F) ((oM : Memref sig .tc .vmem S2048x2048 .f32).view.writes (Elt F) f [⟨r, w⟩]) = patch P r X f := by
    funext y
    by_cases hy : y ∈ r.set
    · obtain ⟨x, rfl⟩ : ∃ x, r.emb x = y := r.exists_idx_of_mem hy
      rw [View.read_writes_cons_emb, hw]
      exact (if_pos ⟨hP, hy⟩).symm
    · rw [View.read_writes_apply_of_forall_not_mem _ _ _ _ (fun p hp => by rw [List.mem_singleton.mp hp]; exact hy)]
      exact (if_neg fun h => hy h.2).symm
  exact (View.read_whole cc0_stg1_0 _).symm.trans h

omit [FloatOps F] in
theorem patch_of_not (P : Prop) [Decidable P] (hP : ¬P) (r : Rect S2048x2048) (X f : Grid F) : patch P r X f = f :=
  funext fun y => if_neg fun h => hP h.1

/-- The kernel's coordinate of device `c` along the mesh's first axis, and along its second. -/
abbrev myX (c : Dev nD) : BitVec 32 := Scalar.remsi (Scalar.divsi (Dev.word c) 2#32) 2#32
abbrev myY (c : Dev nD) : BitVec 32 := Scalar.remsi (Scalar.divsi (Dev.word c) 1#32) 2#32

/-- A conditional's test of such a coordinate. -/
abbrev Tests (w k : BitVec 32) : Prop := Scalar.cmpi .ne (Scalar.extui (Scalar.cmpi .eq w k) : BitVec 32) 0#32 = 1#1

abbrev rTop : Rect S2048x2048 := Rect.unit (s := S2048x2048) ![0, 0] S1x2048.size inb_S2048x2048_S1x2048_0_0
abbrev rBottom : Rect S2048x2048 := Rect.unit (s := S2048x2048) ![2047, 0] S1x2048.size inb_S2048x2048_S1x2048_2047_0
abbrev rLeft : Rect S2048x2048 := Rect.unit (s := S2048x2048) ![0, 0] S2048x1.size inb_S2048x2048_S2048x1_0_0
abbrev rRight : Rect S2048x2048 := Rect.unit (s := S2048x2048) ![0, 2047] S2048x1.size inb_S2048x2048_S2048x1_0_2047

/-- The block that device `c` leaves, from its own block and the two halos. -/
def result (c : Dev nD) (X : Grid F) (row col : Edge F) : Grid F :=
  patch (Tests (myY c) 1#32) rRight X (patch (Tests (myY c) 0#32) rLeft X
    (patch (Tests (myX c) 1#32) rBottom X (patch (Tests (myX c) 0#32) rTop X (stencil X row col))))

end Cert.Halo

end
-- ==== Proof.Body.lean ====
/-
  The kernel body, executed symbolically from a device's share of the protocol to the block it leaves.
-/
module

public import proofs.«01_k».proof.Proof.Protocol
public import proofs.«01_k».proof.Proof.Blocks
public import Idealize.ShloMosaic.Lib.Writes

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The pipeline's data -/

/-- What device `c`'s block of the result holds at the end. -/
def outAt (c : Dev nD) : (cc0_stg1_0 : Ref sig .tc).ty.Contents (Elt F) :=
  result c (xstg m ρ c) (packed m ρ false (peer false c)) (packed m ρ true (peer true c))

def Φ₀ (c : Dev nD) : sProp 𝕄 := iprop(start m ρ c ∗ edges c)
def Φ₁ (c : Dev nD) : sProp 𝕄 := iprop(edges c ∗ settled c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid's one point. -/
def t₀ : Fin cfg0.N := ⟨0, by rw [show cfg0.N = 1 from rfl]; decide⟩
theorem fin_N (t : Fin cfg0.N) : t = t₀ := by
  obtain ⟨t, ht⟩ := t
  have h : cfg0.N = 1 := rfl
  exact Fin.ext (by simp only [t₀]; omega)

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Small steps -/

omit [FloatOps F] in
/-- Loads: of a part of the block, and of an edge whole; the store of an edge whole. -/
theorem read_part (X : Grid F) (r : Rect S2048x2048) :
    (xM : Memref sig .tc .vmem S2048x2048 .f32).view.readAt (Elt F) r.toLoadRect X = View.ld X r := rfl

/-- An edge whole. -/
abbrev rEdge : Rect S1x2048 := Rect.unit (s := S1x2048) ![0, 0] S1x2048.size inb_S1x2048_S1x2048_0_0

theorem zero_offsets : (![0, 0] : Fin 2 → ℕ) = fun _ => 0 := by funext a; fin_cases a <;> rfl

omit [FloatOps F] in
theorem read_rowIn (f : Edge F) : (rowIn : Memref sig .tc .vmem S1x2048 .f32).view.readAt (Elt F)
    rEdge.toLoadRect f = f :=
  Memref.readAt_unit_zero (Elt F) cc0_scratch1 zero_offsets _ f
omit [FloatOps F] in
theorem read_colIn (f : Edge F) : (colIn : Memref sig .tc .vmem S1x2048 .f32).view.readAt (Elt F)
    rEdge.toLoadRect f = f :=
  Memref.readAt_unit_zero (Elt F) cc0_scratch3 zero_offsets _ f
omit [FloatOps F] in
theorem write_rowOut (f w : Edge F) : ((rowOut : Memref sig .tc .vmem S1x2048 .f32).access
    rEdge : View sig .tc _ _ _).write (Elt F) f w Finset.univ = w :=
  Memref.write_access_unit_zero_univ (Elt F) cc0_scratch0 zero_offsets _ f w
omit [FloatOps F] in
theorem write_colOut (f w : Edge F) : ((colOut : Memref sig .tc .vmem S1x2048 .f32).access
    rEdge : View sig .tc _ _ _).write (Elt F) f w Finset.univ = w :=
  Memref.write_access_unit_zero_univ (Elt F) cc0_scratch2 zero_offsets _ f w

variable (K : Dev nD × Fin 5 → ℕ)

/-- The transfer of direction `d` to the peer: it pays the send cell's duty (the packed edge comes back when it is done)
    and the peer's receive cell's duty (the landing buffer there, holding the edge). The two buffers are left open, given
    what they are to the protocol. -/
theorem wp_ship (d : Bool) (c n : Dev nD) (hn : n = peer d c) (src dst : Memref sig .tc .vmem S1x2048 .f32)
    {hsc : (dst : Memref sig (Dev.tc n : Thread nD τ).2.kind .vmem S1x2048 .f32).view.ref.isScScratch = false}
    {hsrc : src.view.WordExact} {hdst : dst.view.WordExact}
    {hsem : DmaTarget.Typed .vmem (.dma (recvS d)) (.remote (Dev.tc n : Thread nD τ) (dst : Memref sig (Dev.tc n : Thread nD τ).2.kind .vmem S1x2048 .f32) (.dma (sendS d)) hsc)}
    (fs : Buf (Elt F) (src.view.loc (c : Thread nD τ))) (fd : Buf (Elt F) (dst.view.loc (Dev.tc (peer d c) : Thread nD τ))) (fn : Edge F)
    (hN : dst.view.amount (.dma (recvS d)) = N)
    (hO : outPts d c (packed m ρ d c) = (src.view.loc (c : Thread nD τ) ↦[src.view.set]{fullShare} fs : sProp 𝕄))
    (hI : inPts d (peer d c) fn = (dst.view.loc (Dev.tc (peer d c) : Thread nD τ) ↦[dst.view.set]{fullShare} fd : sProp 𝕄))
    (hL : (dst.view.loc (Dev.tc (peer d c) : Thread nD τ) ↦[dst.view.set]{fullShare} dst.view.write (Elt F) fd (src.view.read (Elt F) fs) Finset.univ : sProp 𝕄)
      ⊢ inPts d (peer d c) (packed m ρ d c))
    {α : Type} {Q : α → sProp 𝕄} {k : PUnit → Prog (TpuEff nD τ sig (Elt F) Λ₀ .tc) α}
    (O : CellTallies nD τ sig Unit) (W : Waits sig Unit) :
    iprop(cellInv ER (haloRd m ρ) (K (c, sendIx d)) (sendCell d c) ∗ cellInv ER (haloRd m ρ) (K (peer d c, recvIx d)) (recvCell d (peer d c))
        ∗ outPts d c (packed m ρ d c) ∗ inPts d (peer d c) fn
        ∗ owes (c : Thread nD τ) (O + tallyAt (recvCell d (peer d c)) () N) W
        ∗ dutyTok ER (sendCell d c) 0 false ∗ reached ER (sendCell d c) 0
        ∗ dutyTok ER (recvCell d (peer d c)) 0 false ∗ reached ER (recvCell d (peer d c)) 0)
      ⊢ iprop(((cred (tallyAt (sendCell d c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendS d)) hsc) (.dma (recvS d)) hsrc hdst hsem) k) Q) := by
  subst hn
  rw [hO, hI]
  exact Rounds.wp_send_pointsTo 𝒱₀ ER (haloRd m ρ) (c : Thread nD τ) none (κ₁ := K (c, sendIx d)) (κ₂ := K (peer d c, recvIx d))
    (r₁ := 0) (r₂ := 0) (d₁ := false) (d₂ := false) (fd := fd)
    (by rw [duties_send]; exact Finset.mem_singleton_self _) (by rw [duties_recv]; exact Finset.mem_singleton_self _)
    () () N hN (amount_send m ρ c d false) (amount_recv m ρ (peer d c) d false) O rfl (W := W)
    (by rw [payload_send, hO])
    (by rw [payload_recv, peer_peer]; exact hL)

omit [FloatOps F] in
/-- The four buffers as the transfers and the loads hold them. -/
theorem rowOut_pts (c : Dev nD) (f : Edge F) :
    outPts false c f = ((rowOut : Memref sig .tc .vmem S1x2048 .f32).view.loc (c : Thread nD τ) ↦[(rowOut : Memref sig .tc .vmem S1x2048 .f32).view.set]{fullShare} f : sProp 𝕄) := by
  rw [show (rowOut : Memref sig .tc .vmem S1x2048 .f32).view.set = Finset.univ from View.set_whole _]; rfl
omit [FloatOps F] in
theorem rowIn_pts (c : Dev nD) (f : Edge F) :
    inPts false c f = ((rowIn : Memref sig .tc .vmem S1x2048 .f32).view.loc (c : Thread nD τ) ↦[(rowIn : Memref sig .tc .vmem S1x2048 .f32).view.set]{fullShare} f : sProp 𝕄) := by
  rw [show (rowIn : Memref sig .tc .vmem S1x2048 .f32).view.set = Finset.univ from View.set_whole _]; rfl
omit [FloatOps F] in
theorem colOut_pts (c : Dev nD) (f : Edge F) :
    outPts true c f = ((colOut : Memref sig .tc .vmem S1x2048 .f32).view.loc (c : Thread nD τ) ↦[(colOut : Memref sig .tc .vmem S1x2048 .f32).view.set]{fullShare} f : sProp 𝕄) := by
  rw [show (colOut : Memref sig .tc .vmem S1x2048 .f32).view.set = Finset.univ from View.set_whole _]; rfl
omit [FloatOps F] in
theorem colIn_pts (c : Dev nD) (f : Edge F) :
    inPts true c f = ((colIn : Memref sig .tc .vmem S1x2048 .f32).view.loc (c : Thread nD τ) ↦[(colIn : Memref sig .tc .vmem S1x2048 .f32).view.set]{fullShare} f : sProp 𝕄) := by
  rw [show (colIn : Memref sig .tc .vmem S1x2048 .f32).view.set = Finset.univ from View.set_whole _]; rfl

omit [FloatOps F] in
/-- The same, held whole at their locations: what loads and stores go through. -/
theorem rowOut_held (c : Dev nD) (f : Edge F) : outPts false c f = (((c : Thread nD τ).loc cc0_scratch0) ↦{fullShare} f : sProp 𝕄) := rfl
omit [FloatOps F] in
theorem rowIn_held (c : Dev nD) (f : Edge F) : inPts false c f = (((c : Thread nD τ).loc cc0_scratch1) ↦{fullShare} f : sProp 𝕄) := rfl
omit [FloatOps F] in
theorem colOut_held (c : Dev nD) (f : Edge F) : outPts true c f = (((c : Thread nD τ).loc cc0_scratch2) ↦{fullShare} f : sProp 𝕄) := rfl
omit [FloatOps F] in
theorem colIn_held (c : Dev nD) (f : Edge F) : inPts true c f = (((c : Thread nD τ).loc cc0_scratch3) ↦{fullShare} f : sProp 𝕄) := rfl

omit [FloatOps F] in
/-- What lands in a peer's buffer is what was packed. -/
theorem row_lands (f g : Edge F) : (rowIn : Memref sig .tc .vmem S1x2048 .f32).view.write (Elt F) f ((rowOut : Memref sig .tc .vmem S1x2048 .f32).view.read (Elt F) g) Finset.univ = g :=
  (View.write_whole_univ cc0_scratch1 f _).trans (View.read_whole cc0_scratch0 g)
omit [FloatOps F] in
theorem col_lands (f g : Edge F) : (colIn : Memref sig .tc .vmem S1x2048 .f32).view.write (Elt F) f ((colOut : Memref sig .tc .vmem S1x2048 .f32).view.read (Elt F) g) Finset.univ = g :=
  (View.write_whole_univ cc0_scratch3 f _).trans (View.read_whole cc0_scratch2 g)

/-- What the kernel stores to be sent is the packed edge. -/
theorem packed_row (c : Dev nD) : outPts false c (packed m ρ false c)
    = ((((rowOut : Memref sig .tc .vmem S1x2048 .f32).access rEdge : View sig .tc _ _ _).loc (c : Thread nD τ)) ↦{fullShare}
        k0_pay5 c (View.ld (xstg m ρ c) rBottom) (View.ld (xstg m ρ c) rTop) : sProp 𝕄) := rfl
theorem packed_col (c : Dev nD) : outPts true c (packed m ρ true c)
    = ((((colOut : Memref sig .tc .vmem S1x2048 .f32).access rEdge : View sig .tc _ _ _).loc (c : Thread nD τ)) ↦{fullShare}
        k0_pay6 c (View.ld (xstg m ρ c) rRight) (View.ld (xstg m ρ c) rLeft) : sProp 𝕄) := rfl

/-- A wait on a DMA cell of the exchange, nothing owed: its round's payload comes, and the position moves past it. -/
theorem wp_take (c : Dev nD) (q : DmaSem sig) (κ : ℕ) {α : Type} {Q : α → sProp 𝕄} {k : PUnit → Prog (TpuEff nD τ sig (Elt F) Λ₀ .tc) α}
    {src dst : Memref sig .tc .vmem S1x2048 .f32} {hsrc : src.view.WordExact} {hdst : dst.view.WordExact}
    (W : Waits sig Unit) (P : sProp 𝕄)
    (hN : dst.view.dmaCredit = N) (hamt : (haloRd (F := F) m ρ).expect ((c : Thread nD τ), .dma q) 0 = N)
    (hrest : bigSep ((haloRd (F := F) m ρ).duties ((c : Thread nD τ), .dma q) 0 \ ∅) (fun b => (haloRd (F := F) m ρ).payload ((c : Thread nD τ), .dma q) 0 b) = P) :
    iprop(cellInv ER (haloRd m ρ) κ ((c : Thread nD τ), .dma q) ∗ cred (tallyAt ((c : Thread nD τ), .dma q) () N)
        ∗ owes (c : Thread nD τ) 0 W ∗ atPos ER ((c : Thread nD τ), .dma q) 0 ∅ 0)
      ⊢ iprop(((owes (c : Thread nD τ) 0 (insert (SemLoc.dma q, ()) W) ∗ atPos ER ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hrest
  iintro ⟨#HI, Hc, HO, Hat⟩ Hk
  iapply (Rounds.wp_wait_rest_token 𝒱₀ ER (haloRd m ρ) (c : Thread nD τ) none (κ := κ)
      (wpE_waitDma2_eq 𝒱₀ (c : Thread nD τ) none Set.univ) (Set.mem_univ _) () (O := 0) (W := W) (R := 0) (m := 0) (T := ∅)
      (by rw [Nat.zero_add, hamt])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iexact Hpay

/-- A conditional store of the block's own elements through `r`, under a test. -/
theorem wp_restore (c : Dev nD) (P : Prop) [Decidable P] (r : Rect S2048x2048) (X f : Grid F)
    {hl : (xM : Memref sig .tc .vmem S2048x2048 .f32).view.LoadsAt r.toLoadRect} {hl' : (oM : Memref sig .tc .vmem S2048x2048 .f32).view.LoadsAt r.toLoadRect}
    {hx : ((oM : Memref sig .tc .vmem S2048x2048 .f32).access r).Stores Finset.univ} {hm : (Finset.univ : Finset r.shape.Idx) = Finset.univ ∨ ∀ a, r.stride a = 1}
    (w : (r.shape.Idx → Elt F .f32) → r.shape.Idx → Elt F .f32) (hw : w (View.ld X r) = View.ld X r)
    {α : Type} {Q : α → sProp 𝕄} {k : Prog (TpuEff nD τ sig (Elt F) Λ₀ .tc) α} :
    iprop((((c : Thread nD τ).loc cc0_stg0_0) ↦{fullShare} (X : Buf (Elt F) (((c : Dev nD) : Thread nD τ).loc cc0_stg0_0)))
        ∗ (((c : Thread nD τ).loc cc0_stg1_0) ↦{fullShare} (f : Buf (Elt F) (((c : Dev nD) : Thread nD τ).loc cc0_stg1_0))))
      ⊢ iprop((((((c : Thread nD τ).loc cc0_stg0_0) ↦{fullShare} (X : Buf (Elt F) (((c : Dev nD) : Thread nD τ).loc cc0_stg0_0)))
              ∗ (((c : Thread nD τ).loc cc0_stg1_0) ↦{fullShare} (patch P r X f : Buf (Elt F) (((c : Dev nD) : Thread nD τ).loc cc0_stg1_0))))
            -∗ wp frame (wpE (defs₀ (F := F)) 𝒱₀ (c : Thread nD τ) none) Set.univ k Q)
          -∗ wp frame (wpE (defs₀ (F := F)) 𝒱₀ (c : Thread nD τ) none) Set.univ
            (if _h : P then
              .op (.load xM r.toLoadRect hl) fun v => .op (.load oM r.toLoadRect hl') fun _ => .op (.store oM r (w v) Finset.univ hx hm) fun _ => k
              else k) Q) := by
  by_cases h : P
  · rw [dif_pos h]
    iintro ⟨Hx, Hout⟩ Hk
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (r := r) (Mk := Finset.univ) (Finset.subset_univ _)) $$ Hout; iintro Hout
    rw [read_part, patched P h r X f (w (View.ld X r)) (fun x => by rw [hw]; rfl)]
    iapply Hk
    isplitl [Hx] <;> iassumption
  · rw [dif_neg h, patch_of_not P h]
    iintro H Hk
    iapply Hk
    iexact H

/-! ## The run -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ (cred (tallyAt (barCell c) () 2) ∗ cred (tallyAt (recvCell false c) () N) ∗ cred (tallyAt (recvCell true c) () N)) ∗ levAts L lv ∗ edges c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 4000000 in
set_option maxRecDepth 8192 in
/-- The body, one rule per effect in program order: pack, greet both peers, wait for both greetings, ship both edges, take
    everything back, then the stencil and the restored boundary. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4) Kt := by
  simp only [cc0_body_eq_skeleton, k0_part1_eq_skeleton, k0_part2_eq_skeleton, k0_part3_eq_skeleton, k0_part4_eq_skeleton, k0_part5_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId, sem0_eq, sem1_eq, sem2_eq, sem3_eq]
  unfold bodyPre ghost invs marks places payToks edges
  iintro ⟨⟨⟨⟨⟨#HIb, #HIrs, #HIrr, #HIcs, #HIcr, #HIbR, #HIbC, #HIrrR, #HIcrC⟩, ⟨#HmbR, #HmbC, #HmrR, #HmcC, #HmrS, #HmcS⟩,
      ⟨HatB, HatRS, HatRR, HatCS, HatCR⟩, ⟨HtbR, HtbC, HtrR, HtcC, HtrS, HtcS⟩⟩, ⟨HcB, HcR, HcC⟩, #Hlev, ⟨%f0, HrO⟩, ⟨%f1, HrI⟩, ⟨%f2, HcO⟩, ⟨%f3, HcI⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the edge row is packed, then the edge column
  ihave HrO := (Entails.of_eq (rowOut_held c f0)) $$ HrO
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := rowOut) (Finset.subset_univ _)) $$ HrO; iintro HrO
  iapply (wp_store 𝒱₀ (c : Thread nD τ) none Set.univ (m := rowOut) (r := rEdge) (Mk := Finset.univ) (Finset.subset_univ _)) $$ HrO; iintro HrO
  rw [write_rowOut]
  ihave HcO := (Entails.of_eq (colOut_held c f2)) $$ HcO
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := colOut) (Finset.subset_univ _)) $$ HcO; iintro HcO
  iapply (wp_store 𝒱₀ (c : Thread nD τ) none Set.univ (m := colOut) (r := rEdge) (Mk := Finset.univ) (Finset.subset_univ _)) $$ HcO; iintro HcO
  rw [write_colOut]
  -- the greeting to the row peer hands over the row landing buffer, the one to the column peer the column's
  iapply (Rounds.wp_signal 𝒱₀ ER (haloRd m ρ) (c : Thread nD τ) none (dst := (peer false c : Thread nD τ)) (κ := K (peer false c, 0))
      (d := false) (by rw [duties_bar]; exact Finset.mem_univ _) ((amount_bar m ρ (peer false c) false).trans (by decide)) () (O₁ c) rfl)
    $$ [HO HtbR HrI]
  · isplitr; · iexact HIbR
    isplitl [HO]; · iexact HO
    isplitl [HtbR]; · iexact HtbR
    isplitl [HrI]
    · rw [payload_bar]; unfold barPay; rw [peer_peer]
      iexists f1; iexact HrI
    · iexact HmbR
  iintro HO
  iapply (Rounds.wp_signal 𝒱₀ ER (haloRd m ρ) (c : Thread nD τ) none (dst := (peer true c : Thread nD τ)) (κ := K (peer true c, 0))
      (d := true) (by rw [duties_bar]; exact Finset.mem_univ _) ((amount_bar m ρ (peer true c) true).trans (by decide)) () (O₂ c) rfl)
    $$ [HO HtbC HcI]
  · isplitr; · iexact HIbC
    isplitl [HO]; · iexact HO
    isplitl [HtbC]; · iexact HtbC
    isplitl [HcI]
    · rw [payload_bar]; unfold barPay; rw [peer_peer]
      iexists f3; iexact HcI
    · iexact HmbC
  iintro HO
  -- both peers' greetings bring their landing buffers
  iapply (Rounds.wp_wait_rest_token 𝒱₀ ER (haloRd m ρ) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fr, HrI⟩, ⟨%fc, HcI⟩⟩
  -- the edge row leaves, then the edge column
  iapply (wp_ship m ρ K false c _ (dev3_eq c) rowOut rowIn (packed m ρ false c) fr fr rfl (rowOut_pts c _) (rowIn_pts _ _)
      (by rw [row_lands]; exact Entails.of_eq (rowIn_pts _ _).symm) (O₃ c) (insert (SemLoc.reg barS, ()) W)) $$ [HrO HrI HO HtrS HtrR]
  · isplitr; · iexact HIrs
    isplitr; · iexact HIrrR
    isplitl [HrO]; · rw [packed_row]; iexact HrO
    isplitl [HrI]; · iexact HrI
    isplitl [HO]; · iexact HO
    isplitl [HtrS]; · iexact HtrS
    isplitr; · iexact HmrS
    isplitl [HtrR]; · iexact HtrR
    iexact HmrR
  iintro ⟨HcRS, HO⟩
  iapply (wp_ship m ρ K true c _ (dev4_eq c) colOut colIn (packed m ρ true c) fc fc rfl (colOut_pts c _) (colIn_pts _ _)
      (by rw [col_lands]; exact Entails.of_eq (colIn_pts _ _).symm) 0 (insert (SemLoc.reg barS, ()) W)) $$ [HcO HcI HO HtcS HtcC]
  · isplitr; · iexact HIcs
    isplitr; · iexact HIcrC
    isplitl [HcO]; · rw [packed_col]; iexact HcO
    isplitl [HcI]; · iexact HcI
    isplitl [HO]; · rw [zero_add]; iexact HO
    isplitl [HtcS]; · iexact HtcS
    isplitr; · iexact HmcS
    isplitl [HtcC]; · iexact HtcC
    iexact HmcC
  iintro ⟨HcCS, HO⟩
  -- the four waits
  iapply (wp_take m ρ c (sendS false) (K (c, 1)) (insert (SemLoc.reg barS, ()) W) _ rfl (expect_send m ρ c false) (rest_send m ρ c false) (src := rowIn) (dst := rowOut)) $$ [HcRS HO HatRS]
  · isplitr; · iexact HIrs
    isplitl [HcRS]; · iexact HcRS
    isplitl [HO] <;> iassumption
  iintro ⟨HO, HatRS, HrO⟩
  iapply (wp_take m ρ c (recvS false) (K (c, 2)) (insert (SemLoc.dma (sendS false), ()) (insert (SemLoc.reg barS, ()) W)) _ rfl (expect_recv m ρ c false) (rest_recv m ρ c false) (src := rowOut) (dst := rowIn)) $$ [HcR HO HatRR]
  · isplitr; · iexact HIrr
    isplitl [HcR]; · iexact HcR
    isplitl [HO] <;> iassumption
  iintro ⟨HO, HatRR, HrI⟩
  iapply (wp_take m ρ c (sendS true) (K (c, 3)) (insert (SemLoc.dma (recvS false), ()) (insert (SemLoc.dma (sendS false), ()) (insert (SemLoc.reg barS, ()) W))) _ rfl (expect_send m ρ c true) (rest_send m ρ c true) (src := colIn) (dst := colOut)) $$ [HcCS HO HatCS]
  · isplitr; · iexact HIcs
    isplitl [HcCS]; · iexact HcCS
    isplitl [HO] <;> iassumption
  iintro ⟨HO, HatCS, HcO⟩
  iapply (wp_take m ρ c (recvS true) (K (c, 4)) (insert (SemLoc.dma (sendS true), ()) (insert (SemLoc.dma (recvS false), ()) (insert (SemLoc.dma (sendS false), ()) (insert (SemLoc.reg barS, ()) W)))) _ rfl (expect_recv m ρ c true) (rest_recv m ρ c true) (src := colOut) (dst := colIn)) $$ [HcC HO HatCR]
  · isplitr; · iexact HIcr
    isplitl [HcC]; · iexact HcC
    isplitl [HO] <;> iassumption
  iintro ⟨HO, HatCR, HcI⟩
  -- the five cells close: their counters at zero are the device's again
  imod (Rounds.cell_close ER (haloRd m ρ) (Set.mem_univ (K (c, 0))) (fun h => h) (R := 0 + 1) (duties_later m ρ (barCell c))) $$ [HatB] with HzB
  · isplitr; · iexact HIb
    iexact HatB
  imod (Rounds.cell_close ER (haloRd m ρ) (Set.mem_univ (K (c, 1))) (fun h => h) (R := 0 + 1) (duties_later m ρ (sendCell false c))) $$ [HatRS] with HzRS
  · isplitr; · iexact HIrs
    iexact HatRS
  imod (Rounds.cell_close ER (haloRd m ρ) (Set.mem_univ (K (c, 2))) (fun h => h) (R := 0 + 1) (duties_later m ρ (recvCell false c))) $$ [HatRR] with HzRR
  · isplitr; · iexact HIrr
    iexact HatRR
  imod (Rounds.cell_close ER (haloRd m ρ) (Set.mem_univ (K (c, 3))) (fun h => h) (R := 0 + 1) (duties_later m ρ (sendCell true c))) $$ [HatCS] with HzCS
  · isplitr; · iexact HIcs
    iexact HatCS
  imod (Rounds.cell_close ER (haloRd m ρ) (Set.mem_univ (K (c, 4))) (fun h => h) (R := 0 + 1) (duties_later m ρ (recvCell true c))) $$ [HatCR] with HzCR
  · isplitr; · iexact HIcr
    iexact HatCR
  -- the four blocks of rows
  ihave HcI := (Entails.of_eq (colIn_held c _)) $$ HcI
  ihave HrI := (Entails.of_eq (rowIn_held c _)) $$ HrI
  iapply (wp_load 𝒱₀ (c : Thread nD τ) none Set.univ (m := colIn) (Finset.subset_univ _)) $$ HcI; iintro HcI
  rw [read_colIn]
  iapply (wp_load 𝒱₀ (c : Thread nD τ) none Set.univ (m := xM) (Finset.subset_univ _)) $$ Hx; iintro Hx
  rw [read_part]
  iapply (wp_load 𝒱₀ (c : Thread nD τ) none Set.univ (m := rowIn) (Finset.subset_univ _)) $$ HrI; iintro HrI
  rw [read_rowIn]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := oM) (Finset.subset_univ _)) $$ Hout; iintro Hout
  iapply (wp_store_writes₀ 𝒱₀ (c : Thread nD τ) none Set.univ (m := oM) (r := r₁) (Finset.subset_univ _)) $$ Hout; iintro Hout
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := oM) (Finset.subset_univ _)) $$ Hout; iintro Hout
  iapply (wp_store_writes 𝒱₀ (c : Thread nD τ) none Set.univ (m := oM) (r := r₂) (Finset.subset_univ _)) $$ Hout; iintro Hout
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := oM) (Finset.subset_univ _)) $$ Hout; iintro Hout
  iapply (wp_store_writes 𝒱₀ (c : Thread nD τ) none Set.univ (m := oM) (r := r₃) (Finset.subset_univ _)) $$ Hout; iintro Hout
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := rowIn) (Finset.subset_univ _)) $$ HrI; iintro HrI
  rw [read_rowIn]
  iapply (wp_load 𝒱₀ (c : Thread nD τ) none Set.univ (m := xM) (Finset.subset_univ _)) $$ Hx; iintro Hx
  rw [read_part]
  iapply (wp_load 𝒱₀ (c : Thread nD τ) none Set.univ (m := xM) (Finset.subset_univ _)) $$ Hx; iintro Hx
  rw [read_part]
  iapply (wp_load 𝒱₀ (c : Thread nD τ) none Set.univ (m := oM) (Finset.subset_univ _)) $$ Hout; iintro Hout
  iapply (wp_store_writes 𝒱₀ (c : Thread nD τ) none Set.univ (m := oM) (r := r₄) (Finset.subset_univ _)) $$ Hout; iintro Hout
  -- the boundary rows and columns put back
  iapply (wp_restore c (Tests (myX c) 0#32) rTop (xstg m ρ c) ((oM : Memref sig .tc .vmem S2048x2048 .f32).view.writes (Elt F) g1 [⟨r₄, block₄ (xstg m ρ c) (packed m ρ false (peer false c)) (packed m ρ true (peer true c))⟩, ⟨r₃, block₃ (xstg m ρ c) (packed m ρ true (peer true c))⟩, ⟨r₂, block₂ (xstg m ρ c) (packed m ρ true (peer true c))⟩, ⟨r₁, block₁ (xstg m ρ c) (packed m ρ false (peer false c)) (packed m ρ true (peer true c))⟩]) k0_pay1 (shapeCast_self _ _)) $$ [Hx Hout]
  · isplitl [Hx]; · iexact Hx
    iexact Hout
  iintro ⟨Hx, Hout⟩
  rw [written]
  iapply (wp_restore c (Tests (myX c) 1#32) rBottom (xstg m ρ c) _ k0_pay2 (shapeCast_self _ _)) $$ [Hx Hout]
  · isplitl [Hx]; · iexact Hx
    iexact Hout
  iintro ⟨Hx, Hout⟩
  iapply (wp_restore c (Tests (myY c) 0#32) rLeft (xstg m ρ c) _ k0_pay3 (shapeCast_self _ _)) $$ [Hx Hout]
  · isplitl [Hx]; · iexact Hx
    iexact Hout
  iintro ⟨Hx, Hout⟩
  iapply (wp_restore c (Tests (myY c) 1#32) rRight (xstg m ρ c) _ k0_pay4 (shapeCast_self _ _)) $$ [Hx Hout]
  · isplitl [Hx]; · iexact Hx
    iexact Hout
  iintro ⟨Hx, Hout⟩
  rw [wp_ret]; imodintro
  iapply Hk
  unfold bodyPost Φ₁ edges settled Dat.owesAt Pipeline.owesWithin
  rw [show (dats m ρ 0 c).owed t₀.succ = 0 from rfl]
  isplitl [HrO HrI HcO HcI HzB HzRS HzRR HzCS HzCR]
  · isplitl [HrO HrI HcO HcI]
    · isplitl [HrO]; · iexists _; iexact HrO
      isplitl [HrI]; · iexists _; rw [rowIn_held]; iexact HrI
      isplitl [HcO]; · iexists _; iexact HcO
      iexists _; rw [colIn_held]; iexact HcI
    isplitl [HzB]; · iexact HzB
    isplitl [HzRS]; · iexact HzRS
    isplitl [HzRR]; · iexact HzRR
    isplitl [HzCS] <;> iassumption
  isplitl [HO]
  · iexists (insert (SemLoc.dma (recvS true), ()) (insert (SemLoc.dma (sendS true), ()) (insert (SemLoc.dma (recvS false), ()) (insert (SemLoc.dma (sendS false), ()) (insert (SemLoc.reg barS, ()) W)))))
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4) (fun _ => bodyPost m ρ c)
  unfold bodyPre' Φ₀ start
  iintro ⟨⟨⟨⟨%K, Hg⟩, Hc, Hl⟩, He⟩, Ho, Hx, Hout⟩
  iapply (sound_body m ρ K c fun _ => bodyPost m ρ c)
  unfold bodyPre
  isplitr []
  · isplitl [Hg Hc Hl He]
    · isplitl [Hg]; · iexact Hg
      isplitl [Hc]; · iexact Hc
      isplitl [Hl] <;> iassumption
    isplitl [Ho]; · iexact Ho
    isplitl [Hx] <;> iassumption
  · iintro H; iexact H

end Cert.Halo

end
-- ==== Proof.Launch.lean ====
/-
  The launch: the exchange's cells and tokens made for all four devices at once, dealt to the devices that use them, and
  the whole program run.
-/
module

public import proofs.«01_k».proof.Proof.Body
public import Idealize.ShloMosaic.Lib.Pipeline.CollectiveSegs

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_full (c : Dev nD) (w : Fin cfg0.W) : (dats m ρ 0 c).share w = fullShare := by unfold Dat.share; split <;> rfl

theorem csem_injective : Function.Injective (csem : Fin 5 → SemLoc sig) := by decide

theorem kcell_injective : Function.Injective (kcell : Dev nD × Fin 5 → GSem nD τ sig) := fun a b h =>
  Prod.ext (congrArg (fun g : GSem nD τ sig => g.1.1) h) (csem_injective (congrArg Prod.snd h))

/-- All twenty cells of the exchange. -/
def allCells : Finset (GSem nD τ sig) := Finset.univ.map ⟨kcell, kcell_injective⟩

/-- The six duties of a device's own cells, as (which of its cells, which duty). -/
abbrev dutyIx : Fin 6 → Fin 5 × Bool := ![(0, false), (0, true), (2, false), (4, false), (1, false), (3, false)]
abbrev tokOf (cj : Dev nD × Fin 6) : GSem nD τ sig × ℕ × Bool := (kcell (cj.1, (dutyIx cj.2).1), 0, (dutyIx cj.2).2)

theorem tokOf_injective : Function.Injective (tokOf : Dev nD × Fin 6 → GSem nD τ sig × ℕ × Bool) := fun a b h => by
  have hk := kcell_injective (congrArg Prod.fst h)
  have hd : (dutyIx a.2).2 = (dutyIx b.2).2 := congrArg (fun x => x.2.2) h
  have hj : Function.Injective dutyIx := by decide
  exact Prod.ext (congrArg (fun x : Dev nD × Fin 5 => x.1) hk) (hj (Prod.ext (congrArg Prod.snd hk) hd))

def allToks : Finset (GSem nD τ sig × ℕ × Bool) := Finset.univ.map ⟨tokOf, tokOf_injective⟩

/-- The element the launch mints: the pipeline's part and the exchange's. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 false ∗ dutyTok ER (barCell c) 0 true
    ∗ dutyTok ER (recvCell false c) 0 false ∗ dutyTok ER (recvCell true c) 0 false
    ∗ dutyTok ER (sendCell false c) 0 false ∗ dutyTok ER (sendCell true c) 0 false)

/-- A device's five round states; its five positions and marks. -/
def states (c : Dev nD) : sProp 𝕄 := bigSep Finset.univ fun k : Fin 5 => roundState ER (haloRd m ρ) (kcell (c, k)) 0
def stands (c : Dev nD) : sProp 𝕄 :=
  bigSep Finset.univ fun k : Fin 5 => iprop(atPos ER (kcell (c, k)) 0 ∅ 0 ∗ reached ER (kcell (c, k)) 0)

/-- What the launch deals device `c`, and what the mesh-wide step makes of it. -/
def G (c : Dev nD) : sProp 𝕄 := iprop(states m ρ c ∗ stands c ∗ toks c)
def G' (c : Dev nD) : sProp 𝕄 := iprop(∃ K, ghost m ρ K c)

omit [FloatOps F] in
theorem over4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem over5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem over6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_exchange : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : Fin 5 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [over6]; rfl
  iintro HX
  imod (Rounds.fund ER (haloRd m ρ) allCells allToks) $$ HX with ⟨Hst, Hr, Hat, Htok⟩
  imodintro
  ihave Hst' := (Entails.of_eq (hX fun g => roundState ER (haloRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G states stands; simp only [bigSep_sep']
  isplitl [Hst']; · iexact Hst'
  isplitl [Hat' Hr']
  · isplitl [Hat'] <;> iassumption
  iexact Htok'

/-! ## The counters become invariants -/

/-- The four DMA semaphores are the kernel's own; -/
theorem ownSems_eq (c : Dev nD) : (Pipeline.ownSems0 (Ix := Unit) (Name := ℕ) (U := UU) (Lvl := ℕ) (Val := Elt F) (τ := τ) osem c : sProp 𝕄)
    = iprop(semVal (sendCell false c) 0 ∗ semVal (recvCell false c) 0 ∗ semVal (sendCell true c) 0 ∗ semVal (recvCell true c) 0) := by
  rw [Pipeline.ownSems0_eq_of_list c osem [0, 1, 2, 3] (by decide) (by decide)]; rfl
/-- the barrier semaphore is the launch's. -/
theorem launchSems_eq (c : Dev nD) : (unscopedSems0 c : sProp 𝕄) = semVal (barCell c) 0 := by
  unfold unscopedSems0; rw [bigSep_eq_bigSepL_of_eq [SemLoc.reg barS] (by decide) (by decide)]; rfl

theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems_eq, launchSems_eq, over5]
  iintro ⟨HD, HB⟩
  isplitl [HB]; · iexact HB
  iexact HD

/-- The invariants of device `c`'s five cells, each under some name. -/
def named (c : Dev nD) : sProp 𝕄 :=
  bigSep Finset.univ fun k : Fin 5 => iprop(∃ κ : ℕ, cellInv ER (haloRd m ρ) κ (kcell (c, k)))

theorem open_cells (c : Dev nD) :
    iprop((bigSep Finset.univ fun k : Fin 5 => semVal (kcell (c, k)) 0) ∗ states m ρ c) ⊢ (|={Set.univ}=> named m ρ c : sProp 𝕄) := by
  unfold states named
  rw [← bigSep_sep']
  exact (bigSep_mono fun k _ => (Rounds.body_intro ER (haloRd m ρ) (kcell (c, k))).trans inv_alloc).trans (bigSep_fupd _ _)

theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(named m ρ c ∗ stands c ∗ toks c) := by
  unfold G
  iintro ⟨Ho, Hu, Hst, Hat, Htok⟩
  ihave Hv := (counters (F := F) c) $$ [Ho Hu]
  · isplitl [Ho] <;> iassumption
  imod (open_cells m ρ c) $$ [Hv Hst] with Hinv
  · isplitl [Hv] <;> iassumption
  imodintro
  isplitl [Hinv]; · iexact Hinv
  isplitl [Hat] <;> iassumption

/-! ## Dealing -/

/-- Every invariant and every mark of the mesh: all devices may know them. -/
def records (K : Dev nD × Fin 5 → ℕ) : sProp 𝕄 :=
  iprop((bigSep Finset.univ fun ck : Dev nD × Fin 5 => cellInv ER (haloRd m ρ) (K ck) (kcell ck))
    ∗ bigSep Finset.univ fun ck : Dev nD × Fin 5 => reached ER (kcell ck) 0)

instance records_persistent (K : Dev nD × Fin 5 → ℕ) : BI.Persistent (records m ρ K) := by unfold records; infer_instance

theorem records_inv (K : Dev nD × Fin 5 → ℕ) (ck : Dev nD × Fin 5) : records m ρ K ⊢ cellInv ER (haloRd m ρ) (K ck) (kcell ck) := by
  unfold records
  exact sep_elim_left.trans (bigSep_elim (Finset.mem_univ ck))
theorem records_mark (K : Dev nD × Fin 5 → ℕ) (ck : Dev nD × Fin 5) : records m ρ K ⊢ reached ER (kcell ck) 0 := by
  unfold records
  exact sep_elim_right.trans (bigSep_elim (Finset.mem_univ ck))

theorem records_invs (K : Dev nD × Fin 5 → ℕ) (c : Dev nD) : records m ρ K ⊢ invs m ρ K c := by
  unfold invs
  iintro #H
  isplitr; · iapply (records_inv m ρ K (c, 0)); iexact H
  isplitr; · iapply (records_inv m ρ K (c, 1)); iexact H
  isplitr; · iapply (records_inv m ρ K (c, 2)); iexact H
  isplitr; · iapply (records_inv m ρ K (c, 3)); iexact H
  isplitr; · iapply (records_inv m ρ K (c, 4)); iexact H
  isplitr; · iapply (records_inv m ρ K (peer false c, 0)); iexact H
  isplitr; · iapply (records_inv m ρ K (peer true c, 0)); iexact H
  isplitr; · iapply (records_inv m ρ K (peer false c, 2)); iexact H
  iapply (records_inv m ρ K (peer true c, 4)); iexact H

theorem records_marks (K : Dev nD × Fin 5 → ℕ) (c : Dev nD) : records m ρ K ⊢ marks c := by
  unfold marks
  iintro #H
  isplitr; · iapply (records_mark m ρ K (peer false c, 0)); iexact H
  isplitr; · iapply (records_mark m ρ K (peer true c, 0)); iexact H
  isplitr; · iapply (records_mark m ρ K (peer false c, 2)); iexact H
  isplitr; · iapply (records_mark m ρ K (peer true c, 4)); iexact H
  isplitr; · iapply (records_mark m ρ K (c, 1)); iexact H
  iapply (records_mark m ρ K (c, 3)); iexact H

theorem ghost_intro (K : Dev nD × Fin 5 → ℕ) (c : Dev nD) : iprop(records m ρ K ∗ places c ∗ payToks c) ⊢ G' m ρ c := by
  unfold G' ghost
  iintro ⟨#H, Hat, Htok⟩
  iexists K
  isplitr; · iapply (records_invs m ρ K c); iexact H
  isplitr; · iapply (records_marks m ρ K c); iexact H
  isplitl [Hat] <;> iassumption

/-- A family of one proposition per device, read at the peers. -/
theorem over_peers (d : Bool) (Φ : Dev nD → sProp 𝕄) : bigSep Finset.univ Φ = bigSep Finset.univ fun c : Dev nD => Φ (peer d c) :=
  bigSep_univ_equiv (across d) Φ

/-- The tokens go to the devices that pay them: the barrier's and the receives' to the peers, the sends' nowhere. -/
theorem toks_across : (bigSep Finset.univ fun c : Dev nD => (toks c : sProp 𝕄)) ⊢ bigSep Finset.univ fun c : Dev nD => payToks c := by
  unfold toks payToks
  simp only [bigSep_sep']
  rw [over_peers false (fun c : Dev nD => (dutyTok ER (barCell c) 0 false : sProp 𝕄)),
    over_peers true (fun c : Dev nD => (dutyTok ER (barCell c) 0 true : sProp 𝕄)),
    over_peers false (fun c : Dev nD => (dutyTok ER (recvCell false c) 0 false : sProp 𝕄)),
    over_peers true (fun c : Dev nD => (dutyTok ER (recvCell true c) 0 false : sProp 𝕄))]

/-- What every device may know, given to each. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem named_all : (bigSep Finset.univ fun c : Dev nD => named m ρ c)
    ⊢ iprop(∃ K : Dev nD × Fin 5 → ℕ, bigSep Finset.univ fun ck : Dev nD × Fin 5 => cellInv ER (haloRd m ρ) (K ck) (kcell ck)) := by
  unfold named
  rw [← bigSep_univ_prod (fun ck : Dev nD × Fin 5 => iprop(∃ κ : ℕ, cellInv ER (haloRd m ρ) κ (kcell ck)))]
  exact BI.bigSep_exists_pi Finset.univ (fun (ck : Dev nD × Fin 5) (κ : ℕ) => (cellInv ER (haloRd m ρ) κ (kcell ck) : sProp 𝕄))

theorem stands_all : (bigSep Finset.univ fun c : Dev nD => (stands c : sProp 𝕄))
    = iprop((bigSep Finset.univ fun c : Dev nD => places c) ∗ bigSep Finset.univ fun ck : Dev nD × Fin 5 => reached ER (kcell ck) 0) := by
  rw [bigSep_univ_prod (fun ck : Dev nD × Fin 5 => (reached ER (kcell ck) 0 : sProp 𝕄)), ← bigSep_sep']
  refine bigSep_congr fun c _ => ?_
  unfold stands places
  rw [bigSep_sep', over5 (fun k => atPos ER (kcell (c, k)) 0 ∅ 0)]

theorem deal :
    (bigSep Finset.univ fun c : Dev nD => iprop(named m ρ c ∗ stands c ∗ toks c) : sProp 𝕄) ⊢ bigSep Finset.univ (G' m ρ) := by
  rw [bigSep_sep', bigSep_sep', stands_all]
  iintro ⟨HI, ⟨Hat, #HR⟩, Htok⟩
  ihave HK := (named_all m ρ) $$ HI
  icases HK with ⟨%K, #HI⟩
  ihave Htk := (toks_across (F := F)) $$ Htok
  iapply (share_out (R := records m ρ K) fun c => ghost_intro m ρ K c)
  isplitr
  · unfold records; isplitl; · iexact HI
    iexact HR
  · rw [bigSep_sep']
    isplitl [Hat] <;> iassumption

/-- The mesh-wide step: every device's counters and dealt state to every device's start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (deal m ρ))

/-! ## The credit at launch -/

/-- One unit of dues seen from its cell: it is there exactly for the owner's peer. -/
theorem due_at (k : Fin 5) (d : Bool) (n : ℕ) (e c : Dev nD) :
    (tallyAt (kcell (peer d e, k)) () n : CellTallies nD τ sig Unit) (kcell (c, k)) () = if e = peer d c then n else 0 := by
  rw [tallyAt_apply]
  by_cases h : e = peer d c
  · subst h; rw [peer_peer, if_pos ⟨rfl, rfl⟩, if_pos rfl]
  · rw [if_neg (fun h' => h (by rw [show c = peer d e from congrArg (fun x : Dev nD × Fin 5 => x.1) (kcell_injective h'.1), peer_peer])), if_neg h]
/-- A due of one of the five kinds is nothing at a cell of another. -/
theorem due_off {k l : Fin 5} (hkl : k ≠ l) (n : ℕ) (e c : Dev nD) :
    (tallyAt (kcell (e, k)) () n : CellTallies nD τ sig Unit) (kcell (c, l)) () = 0 := by
  rw [tallyAt_apply, if_neg fun h => hkl (congrArg Prod.snd (kcell_injective h.1)).symm]

theorem O₀_apply (e : Dev nD) (g : GSem nD τ sig) :
    O₀ e g () = (tallyAt (kcell (peer true e, 4)) () N : CellTallies nD τ sig Unit) g () + (tallyAt (kcell (peer false e, 2)) () N : CellTallies nD τ sig Unit) g ()
      + (tallyAt (kcell (peer true e, 0)) () 1 : CellTallies nD τ sig Unit) g () + (tallyAt (kcell (peer false e, 0)) () 1 : CellTallies nD τ sig Unit) g () := rfl

theorem owed_bar (e c : Dev nD) : O₀ e (barCell c) () = (if e = peer true c then 1 else 0) + (if e = peer false c then 1 else 0) := by
  rw [O₀_apply, show barCell c = kcell (c, 0) from rfl, due_off (by decide), due_off (by decide), due_at, due_at, Nat.add_zero, Nat.zero_add]
theorem owed_recv (d : Bool) (e c : Dev nD) : O₀ e (recvCell d c) () = if e = peer d c then N else 0 := by
  rw [O₀_apply]
  cases d
  · rw [show recvCell false c = kcell (c, 2) from rfl, due_off (by decide), due_at, due_off (by decide), due_off (by decide)]; simp only [Nat.zero_add, Nat.add_zero]
  · rw [show recvCell true c = kcell (c, 4) from rfl, due_at, due_off (by decide), due_off (by decide), due_off (by decide)]; simp only [Nat.add_zero]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun e _ => owed_bar e c, Finset.sum_add_distrib,
    Finset.sum_ite_eq' Finset.univ (peer true c) fun _ => 1, Finset.sum_ite_eq' Finset.univ (peer false c) fun _ => 1, if_pos (Finset.mem_univ _), if_pos (Finset.mem_univ _)]
theorem credit_recv (d : Bool) (c : Dev nD) :
    tallyOn (recvCell d c) (launchCredit (Pipeline.owing O₀) 0 (recvCell d c)) = (tallyAt (recvCell d c) () N : CellTallies nD τ sig Unit) := by
  unfold tallyAt; refine congrArg _ (Finsupp.ext fun u => ?_); cases u
  rw [Pipeline.launchCredit_owing, Finsupp.single_eq_same, Finset.sum_congr rfl fun e _ => owed_recv d e c,
    Finset.sum_ite_eq' Finset.univ (peer d c) fun _ => N, if_pos (Finset.mem_univ _)]

theorem creds (c : Dev nD) : (Pipeline.launchCred O₀ c : sProp 𝕄)
    ⊢ iprop(cred (tallyAt (barCell c) () 2) ∗ cred (tallyAt (recvCell false c) () N) ∗ cred (tallyAt (recvCell true c) () N)) := by
  rw [← credit_bar, ← credit_recv, ← credit_recv]
  unfold Pipeline.launchCred
  rw [bigSep_univ_at _ (SemLoc.reg barS),
    bigSep_erase (i := SemLoc.dma (recvS false)) (Finset.mem_erase.mpr ⟨(fun h => by cases h), Finset.mem_univ _⟩)]
  exact sep_mono_right (sep_mono_right (bigSep_elim (Finset.mem_erase.mpr ⟨by decide, Finset.mem_erase.mpr ⟨(fun h => by cases h), Finset.mem_univ _⟩⟩)))

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem edges_eq (c : Dev nD) : (Pipeline.scopedRest cfg0.spec c : sProp 𝕄) = edges c := by
  rw [scopedRest0_eq]; rfl

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, edges_eq]
  unfold Φ₀
  iintro ⟨Hs, -, He⟩
  isplitl [Hs] <;> iassumption

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, edges_eq, ownSems_eq, launchSems_eq]
  unfold Φ₁ settled
  iintro ⟨He, HB, HD⟩
  isplitl [HB]; · iexact HB
  isplitl [HD] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds on device `c` at the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any values of the floats: every weakly fair execution of the four
    devices terminates, with each result array at the computed contents, the operand as it was and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Halo

end
-- ==== Proof.Place.lean ====
/-
  Where the four blocks lie in the whole array, and what the exchange brings each device: seen from the whole array `V`,
  the halo row is the row just across the cut between the mesh rows, the halo column the column just across the other cut,
  and the block that a device leaves is the five-point step of `V` at the elements off the outer boundary, `V` on it.
-/
module

public import proofs.«01_k».proof.Proof.Blocks
public import Idealize.ShloMosaic.Lib.Layout

@[expose] public section

set_option maxRecDepth 16384

noncomputable section

namespace Cert.Halo

open Cert.KernelIdeal Cert.KernelIdeal.Gen
open Idealize.ShloMosaic
open Idealize.ShloMosaic.Pointwise

variable {F : FTy → Type} [FloatOps F]

/-- The whole array. -/
abbrev Whole (F : FTy → Type) : Type := (⟨2, ![4096, 4096]⟩ : Shape).Idx → Elt F .f32

/-- Off the outer boundary. -/
def Inner (r s : Fin 4096) : Prop := 0 < r.val ∧ r.val < 4095 ∧ 0 < s.val ∧ s.val < 4095
instance (r s : Fin 4096) : Decidable (Inner r s) := by unfold Inner; infer_instance

/-- The step at element `(r, s)`, summed as the kernel sums. -/
def step (V : Whole F) (r s : Fin 4096) : Elt F .f32 :=
  if h : Inner r s then
    mix (V (ix2 r s)) (V (ix2 (⟨r.val - 1, by omega⟩ : Fin 4096) s)) (V (ix2 (⟨r.val + 1, by have := h.2.1; omega⟩ : Fin 4096) s))
      (V (ix2 r (⟨s.val - 1, by omega⟩ : Fin 4096))) (V (ix2 r (⟨s.val + 1, by have := h.2.2.2; omega⟩ : Fin 4096)))
  else V (ix2 r s)

/-- Row (or column) `i` of the block at place `k` along an axis, in the whole array. -/
def at_ (k : ℕ) (hk : k < 2) (i : Fin 2048) : Fin 4096 := ⟨2048 * k + i.val, by omega⟩

theorem row_lt (c : Dev nD) : c.val / 2 < 2 := by have h : c.val < 4 := c.isLt; omega
theorem col_lt (c : Dev nD) : c.val % 2 < 2 := by omega

/-- Device `c`'s place in the mesh. -/
def place (c : Dev nD) := Layout.meshBlock [2, 2] ![[0], [1]] c

/-- Device `c`'s block of `V`. -/
def part (V : Whole F) (c : Dev nD) : Grid F :=
  Layout.blockN ⟨2, ![2048, 2048]⟩ ⟨2, ![4096, 4096]⟩ (place c) V

omit [FloatOps F] in
/-- The block of device `c` is the one at places `c / 2` and `c % 2`. -/
theorem part_ix2 (V : Whole F) (c : Dev nD) (i j : Fin 2048) :
    part V c (ix2 i j) = V (ix2 (at_ (c.val / 2) (row_lt c) i) (at_ (c.val % 2) (col_lt c) j)) := by
  unfold part
  rw [Layout.blockN_apply]
  refine congrArg V (funext fun a => Fin.ext ?_)
  rw [Layout.TilesN.idx_val]
  match a with
  | 0 =>
    have h : (place c 0).val = c.val / 2 := by revert c; decide
    show (place c 0).val * 2048 + i.val = 2048 * (c.val / 2) + i.val
    rw [h]; omega
  | 1 =>
    have h : (place c 1).val = c.val % 2 := by revert c; decide
    show (place c 1).val * 2048 + j.val = 2048 * (c.val % 2) + j.val
    rw [h]; omega

/-! ## The words of a device's place -/

theorem tests_x0 (c : Dev nD) : Tests (myX c) 0#32 ↔ c.val / 2 = 0 := by revert c; decide
theorem tests_x1 (c : Dev nD) : Tests (myX c) 1#32 ↔ c.val / 2 = 1 := by revert c; decide
theorem tests_y0 (c : Dev nD) : Tests (myY c) 0#32 ↔ c.val % 2 = 0 := by revert c; decide
theorem tests_y1 (c : Dev nD) : Tests (myY c) 1#32 ↔ c.val % 2 = 1 := by revert c; decide

theorem word_x (c : Dev nD) : Scalar.cmpi .eq (myX c) 0#32 = if c.val / 2 = 0 then 1#1 else 0#1 := by revert c; decide
theorem word_y (c : Dev nD) : Scalar.cmpi .eq (myY c) 0#32 = if c.val % 2 = 0 then 1#1 else 0#1 := by revert c; decide

theorem peer_row (c : Dev nD) : (peer false c).val / 2 = 1 - c.val / 2 ∧ (peer false c).val % 2 = c.val % 2 := by revert c; decide
theorem peer_col (c : Dev nD) : (peer true c).val / 2 = c.val / 2 ∧ (peer true c).val % 2 = 1 - c.val % 2 := by revert c; decide

/-! ## What the peers pack -/

/-- The row edge of a block on device `c`, as it is packed. -/
def rowEdge (c : Dev nD) (X : Grid F) : Edge F :=
  k0_pay5 c (View.ld X (Rect.unit (s := S2048x2048) ![2047, 0] S1x2048.size inb_S2048x2048_S1x2048_2047_0))
    (View.ld X (Rect.unit (s := S2048x2048) ![0, 0] S1x2048.size inb_S2048x2048_S1x2048_0_0))
/-- The column edge, laid out as a row. -/
def colEdge (c : Dev nD) (X : Grid F) : Edge F :=
  k0_pay6 c (View.ld X (Rect.unit (s := S2048x2048) ![0, 2047] S2048x1.size inb_S2048x2048_S2048x1_0_2047))
    (View.ld X (Rect.unit (s := S2048x2048) ![0, 0] S2048x1.size inb_S2048x2048_S2048x1_0_0))

theorem rowEdge_at (c : Dev nD) (X : Grid F) (j : Fin 2048) :
    rowEdge c X (ix2 (0 : Fin 1) j) = if c.val / 2 = 0 then X (ix2 (2047 : Fin 2048) j) else X (ix2 (0 : Fin 2048) j) := by
  unfold rowEdge k0_pay5
  dsimp only
  rw [show Scalar.cmpi .eq (Scalar.remsi (Scalar.divsi (Dev.word c) 2#32) 2#32) 0#32 = _ from word_x c]
  by_cases h : c.val / 2 = 0
  · rw [if_pos h, if_pos h]
    pointwise []
  · rw [if_neg h, if_neg h]
    pointwise []

theorem colEdge_at (c : Dev nD) (X : Grid F) (i : Fin 2048) :
    colEdge c X (ix2 (0 : Fin 1) i) = if c.val % 2 = 0 then X (ix2 i (2047 : Fin 2048)) else X (ix2 i (0 : Fin 2048)) := by
  unfold colEdge k0_pay6
  dsimp only
  rw [show Scalar.cmpi .eq (Scalar.remsi (Scalar.divsi (Dev.word c) 1#32) 2#32) 0#32 = _ from word_y c]
  by_cases h : c.val % 2 = 0
  · rw [if_pos h, if_pos h]
    pointwise []
  · rw [if_neg h, if_neg h]
    pointwise []

/-- The halo row on device `c` is the row of `V` across the cut. -/
theorem halo_row (V : Whole F) (c : Dev nD) (j : Fin 2048) :
    rowEdge (peer false c) (part V (peer false c)) (ix2 (0 : Fin 1) j)
      = V (ix2 (⟨2048 - c.val / 2, by omega⟩ : Fin 4096) (at_ (c.val % 2) (col_lt c) j)) := by
  have hp := peer_row c
  have hc := row_lt c
  rw [rowEdge_at, part_ix2, part_ix2]
  split <;> exact read_congr V (by simp only [at_, hp.1] at *; simp; omega) (by simp only [at_, hp.2])
/-- The halo column is the column across the other cut. -/
theorem halo_col (V : Whole F) (c : Dev nD) (i : Fin 2048) :
    colEdge (peer true c) (part V (peer true c)) (ix2 (0 : Fin 1) i)
      = V (ix2 (at_ (c.val / 2) (row_lt c) i) (⟨2048 - c.val % 2, by omega⟩ : Fin 4096)) := by
  have hp := peer_col c
  have hc := col_lt c
  rw [colEdge_at, part_ix2, part_ix2]
  split <;> exact read_congr V (by simp only [at_, hp.1]) (by simp only [at_, hp.2] at *; simp; omega)

/-! ## The conditional stores, at an element -/

theorem mem_top (i j : Fin 2048) : (ix2 i j : S2048x2048.Idx) ∈ rTop.set ↔ i.val = 0 := by
  rw [Rect.mem_set_unit, Fin.forall_fin_two]
  simp [ix2_0, ix2_1]
theorem mem_bottom (i j : Fin 2048) : (ix2 i j : S2048x2048.Idx) ∈ rBottom.set ↔ i.val = 2047 := by
  rw [Rect.mem_set_unit, Fin.forall_fin_two]
  simp [ix2_0, ix2_1]; omega
theorem mem_left (i j : Fin 2048) : (ix2 i j : S2048x2048.Idx) ∈ rLeft.set ↔ j.val = 0 := by
  rw [Rect.mem_set_unit, Fin.forall_fin_two]
  simp [ix2_0, ix2_1]
theorem mem_right (i j : Fin 2048) : (ix2 i j : S2048x2048.Idx) ∈ rRight.set ↔ j.val = 2047 := by
  rw [Rect.mem_set_unit, Fin.forall_fin_two]
  simp [ix2_0, ix2_1]; omega

/-- The block that a device leaves, at an element: its own element where that lies on the outer boundary, else the stencil. -/
theorem result_ix2 (c : Dev nD) (X : Grid F) (row col : Edge F) (i j : Fin 2048) :
    result c X row col (ix2 i j)
      = if Inner (at_ (c.val / 2) (row_lt c) i) (at_ (c.val % 2) (col_lt c) j) then stencil X row col (ix2 i j) else X (ix2 i j) := by
  have hr := row_lt c
  have hs := col_lt c
  unfold result patch
  simp only [tests_x0, tests_x1, tests_y0, tests_y1, mem_top, mem_bottom, mem_left, mem_right]
  by_cases h : Inner (at_ (c.val / 2) (row_lt c) i) (at_ (c.val % 2) (col_lt c) j)
  · rw [if_pos h]
    unfold Inner at_ at h
    dsimp only at h
    rw [if_neg (by omega), if_neg (by omega), if_neg (by omega), if_neg (by omega)]
  · rw [if_neg h]
    unfold Inner at_ at h
    dsimp only at h
    split; · rfl
    split; · rfl
    split; · rfl
    split; · rfl
    omega

/-- Every device leaves its block of the step of `V`. -/
theorem result_part (V : Whole F) (c : Dev nD) (i j : Fin 2048) :
    result c (part V c) (rowEdge (peer false c) (part V (peer false c))) (colEdge (peer true c) (part V (peer true c))) (ix2 i j)
      = step V (at_ (c.val / 2) (row_lt c) i) (at_ (c.val % 2) (col_lt c) j) := by
  have hr := row_lt c
  have hs := col_lt c
  rw [result_ix2]
  unfold step
  by_cases h : Inner (at_ (c.val / 2) (row_lt c) i) (at_ (c.val % 2) (col_lt c) j)
  · rw [if_pos h, dif_pos h, stencil_ix2]
    unfold Inner at_ at h
    dsimp only at h
    refine mix_congr (part_ix2 V c i j) ?_ ?_ ?_ ?_
    · unfold above
      split
      · rw [halo_row]; exact read_congr V (by simp only [at_]; omega) rfl
      · rw [part_ix2]; exact read_congr V (by simp only [at_]; omega) rfl
    · unfold below
      split
      · rw [halo_row]; exact read_congr V (by simp only [at_]; omega) rfl
      · rw [part_ix2]; exact read_congr V (by simp only [at_]; omega) rfl
    · unfold before
      split
      · rw [halo_col]; exact read_congr V rfl (by simp only [at_]; omega)
      · rw [part_ix2]; exact read_congr V rfl (by simp only [at_]; omega)
    · unfold behind
      split
      · rw [halo_col]; exact read_congr V rfl (by simp only [at_]; omega)
      · rw [part_ix2]; exact read_congr V rfl (by simp only [at_]; omega)
  · rw [if_neg h, dif_neg h, part_ix2]

end Cert.Halo

end
-- ==== Proof.Whole.lean ====
/-
  What the reference computes: at an element off the boundary half of the element and an eighth of each of its four
  neighbours, added up one by one; on the boundary the element itself. Over the extended reals this is the kernel's sum.
-/
module

public import proofs.«01_k».proof.Proof.Place
public import proofs.«01_k».proof.Proof.Gen.ReferenceIdeal.Run
public import Idealize.ShloMosaic.Lib.Routing.OpsSet
public import Idealize.ShloMosaic.PureOps.Ideal
public import Idealize.ShloMosaic.Lib.Pointwise.IndexBridge

@[expose] public section

set_option maxRecDepth 16384

noncomputable section

namespace Cert.Halo

open Cert.ReferenceIdeal Cert.ReferenceIdeal.Gen
open Idealize.ShloMosaic
open Idealize.ShloMosaic.Pointwise

variable {F : FTy → Type} [FloatOps F]

/-- The five terms added up one by one. -/
def chain (ce up dn lf rt : Elt F .f32) : Elt F .f32 :=
  FloatOps.addf (FloatOps.addf (FloatOps.addf (FloatOps.addf (FloatOps.mulf (FloatOps.ofBits .f32 0x3F000000#32) ce)
    (FloatOps.mulf (FloatOps.ofBits .f32 0x3E000000#32) up)) (FloatOps.mulf (FloatOps.ofBits .f32 0x3E000000#32) dn))
    (FloatOps.mulf (FloatOps.ofBits .f32 0x3E000000#32) lf)) (FloatOps.mulf (FloatOps.ofBits .f32 0x3E000000#32) rt)

/-- The sum of equal terms. -/
theorem chain_congr {a b c d e a' b' c' d' e' : Elt F .f32} (ha : a = a') (hb : b = b') (hc : c = c') (hd : d = d') (he : e = e') :
    chain a b c d e = chain a' b' c' d' e' := by subst ha hb hc hd he; rfl

/-- The update that the reference writes over the inside. -/
def inside (V : Whole F) : (⟨2, ![4094, 4094]⟩ : Shape).Idx → Elt F .f32 :=
  addf (addf (addf (addf (mulf (broadcastInDim S4094x4094 ![] bcast_S_S4094x4094 (constant S_ .f32 0x3F000000#32)) (extractStridedSlice S4094x4094 ![1, 1] V slices_S4096x4096_S4094x4094_1_1))
    (mulf (broadcastInDim S4094x4094 ![] bcast_S_S4094x4094 (constant S_ .f32 0x3E000000#32)) (extractStridedSlice S4094x4094 ![0, 1] V slices_S4096x4096_S4094x4094_0_1)))
    (mulf (broadcastInDim S4094x4094 ![] bcast_S_S4094x4094 (constant S_ .f32 0x3E000000#32)) (extractStridedSlice S4094x4094 ![2, 1] V slices_S4096x4096_S4094x4094_2_1)))
    (mulf (broadcastInDim S4094x4094 ![] bcast_S_S4094x4094 (constant S_ .f32 0x3E000000#32)) (extractStridedSlice S4094x4094 ![1, 0] V slices_S4096x4096_S4094x4094_1_0)))
    (mulf (broadcastInDim S4094x4094 ![] bcast_S_S4094x4094 (constant S_ .f32 0x3E000000#32)) (extractStridedSlice S4094x4094 ![1, 2] V slices_S4096x4096_S4094x4094_1_2))

/-- Where the update begins: row 1, column 1. -/
def corner : (⟨1, ![2]⟩ : Shape).Idx → BitVec 32 :=
  concatenate S2 0 [⟨S1, (broadcastInDim S1 ![] bcast_S_S1 (constantI S_ 32 1#32))⟩, ⟨S1, (broadcastInDim S1 ![] bcast_S_S1 (constantI S_ 32 1#32))⟩] concatenates_S1_S1_S2_d0

/-- The reference's result. -/
def refOut (V : Whole F) : Whole F :=
  Host.scatter scatter_S4096x4096_S2_S4094x4094_01_n_01_0 (fun _ b => b) V corner (inside V)

theorem corner_at (z : (⟨1, ![2]⟩ : Shape).Idx) : corner z = 1#32 := by
  obtain ⟨k, rfl⟩ : ∃ k : Fin 2, z = ix1 k := ⟨z 0, eq_ix1 z⟩
  unfold corner
  fin_cases k <;> rfl

theorem inside_ix2 (V : Whole F) (i j : Fin 4094) :
    inside V (ix2 i j) = chain (V (ix2 (⟨1 + i.val, by omega⟩ : Fin 4096) (⟨1 + j.val, by omega⟩ : Fin 4096)))
      (V (ix2 (⟨i.val, by omega⟩ : Fin 4096) (⟨1 + j.val, by omega⟩ : Fin 4096)))
      (V (ix2 (⟨2 + i.val, by omega⟩ : Fin 4096) (⟨1 + j.val, by omega⟩ : Fin 4096)))
      (V (ix2 (⟨1 + i.val, by omega⟩ : Fin 4096) (⟨j.val, by omega⟩ : Fin 4096)))
      (V (ix2 (⟨1 + i.val, by omega⟩ : Fin 4096) (⟨2 + j.val, by omega⟩ : Fin 4096))) := by
  unfold inside chain
  pointwise []

/-- Update `(i, j)` lands at element `(1 + i, 1 + j)`. -/
theorem lands (i j : Fin 4094) (r s : Fin 4096) :
    (scatter_S4096x4096_S2_S4094x4094_01_n_01_0).resultIdx? (ix2 i j) corner = some (ix2 r s) ↔ r.val = 1 + i.val ∧ s.val = 1 + j.val := by
  rw [Routing.resultIdx?_eq_some, Fin.forall_fin_two]
  have h0 : (scatter_S4096x4096_S2_S4094x4094_01_n_01_0).start (ix2 i j) corner 0 = 1 := by
    unfold ScatterDims.start; rw [dif_pos (by decide), corner_at]; rfl
  have h1 : (scatter_S4096x4096_S2_S4094x4094_01_n_01_0).start (ix2 i j) corner 1 = 1 := by
    unfold ScatterDims.start; rw [dif_pos (by decide), corner_at]; rfl
  have w0 : (scatter_S4096x4096_S2_S4094x4094_01_n_01_0).window (ix2 i j) 0 = i.val := rfl
  have w1 : (scatter_S4096x4096_S2_S4094x4094_01_n_01_0).window (ix2 i j) 1 = j.val := rfl
  rw [h0, h1, w0, w1, ix2_0, ix2_1]
  omega

/-- The reference at an element. -/
theorem refOut_ix2 (V : Whole F) (r s : Fin 4096) :
    refOut V (ix2 r s) = if h : Inner r s then
        chain (V (ix2 r s)) (V (ix2 (⟨r.val - 1, by omega⟩ : Fin 4096) s)) (V (ix2 (⟨r.val + 1, by have := h.2.1; omega⟩ : Fin 4096) s))
          (V (ix2 r (⟨s.val - 1, by omega⟩ : Fin 4096))) (V (ix2 r (⟨s.val + 1, by have := h.2.2.2; omega⟩ : Fin 4096)))
      else V (ix2 r s) := by
  unfold refOut
  by_cases h : Inner r s
  · rw [dif_pos h]
    obtain ⟨h1, h2, h3, h4⟩ := h
    refine Routing.scatter_set_hit _ V corner (inside V) (ix2 r s) _ (fun k hk => ?_)
      (ix2 (⟨r.val - 1, by omega⟩ : Fin 4094) (⟨s.val - 1, by omega⟩ : Fin 4094)) ((lands _ _ r s).2 ⟨by dsimp only; omega, by dsimp only; omega⟩)
    obtain ⟨i, j, rfl⟩ : ∃ (i j : Fin 4094), k = ix2 i j := ⟨k 0, k 1, eq_ix2 k⟩
    obtain ⟨hr, hs⟩ := (lands i j r s).1 hk
    rw [inside_ix2]
    exact chain_congr (read_congr V (by dsimp only; omega) (by dsimp only; omega)) (read_congr V (by dsimp only; omega) (by dsimp only; omega))
      (read_congr V (by dsimp only; omega) (by dsimp only; omega)) (read_congr V (by dsimp only; omega) (by dsimp only; omega))
      (read_congr V (by dsimp only; omega) (by dsimp only; omega))
  · rw [dif_neg h]
    refine Routing.scatter_set_miss _ V corner (inside V) (ix2 r s) fun k hk => h ?_
    obtain ⟨i, j, rfl⟩ : ∃ (i j : Fin 4094), k = ix2 i j := ⟨k 0, k 1, eq_ix2 k⟩
    obtain ⟨hr, hs⟩ := (lands i j r s).1 hk
    unfold Inner; omega

/-! ## The two sums, over the extended reals -/

/-- One eighth is a real number above zero, so that it may be multiplied into a sum. -/
theorem eighth : Ideal.ofBits .f32 0x3E000000#32 = (((1 : ℝ) / 8 : ℝ) : EReal) := by
  simp [Ideal.ofBits, Ideal.ieee, -EReal.coe_mul]; norm_num

theorem mix_eq_chain (ce up dn lf rt : Elt Ideal .f32) : mix ce up dn lf rt = chain ce up dn lf rt := by
  have h0 : (0 : EReal) ≤ Ideal.ofBits .f32 0x3E000000#32 := by rw [eighth]; exact EReal.coe_nonneg.2 (by norm_num)
  have ht : Ideal.ofBits .f32 0x3E000000#32 ≠ (⊤ : EReal) := by rw [eighth]; exact EReal.coe_ne_top _
  have hd (a b : EReal) : (Ideal.ofBits .f32 0x3E000000#32 : EReal) * (a + b) = Ideal.ofBits .f32 0x3E000000#32 * a + Ideal.ofBits .f32 0x3E000000#32 * b :=
    EReal.left_distrib_of_nonneg_of_ne_top h0 ht a b
  show (Ideal.ofBits .f32 0x3F000000#32 : EReal) * ce + Ideal.ofBits .f32 0x3E000000#32 * ((up + dn) + (lf + rt))
    = (((Ideal.ofBits .f32 0x3F000000#32 * ce + Ideal.ofBits .f32 0x3E000000#32 * up) + Ideal.ofBits .f32 0x3E000000#32 * dn)
        + Ideal.ofBits .f32 0x3E000000#32 * lf) + Ideal.ofBits .f32 0x3E000000#32 * rt
  rw [hd, hd, hd]
  simp only [add_assoc]

/-- So the step is the reference. -/
theorem step_eq (V : Whole Ideal) (r s : Fin 4096) : step V r s = refOut V (ix2 r s) := by
  rw [refOut_ix2]
  unfold step
  split
  · exact mix_eq_chain _ _ _ _ _
  · rfl

end Cert.Halo

end
-- ==== Proof.Value.lean ====
/-
  The claims of value: what the run of the kernel leaves in each device's result is the block of the reference's result
  that the layout gives the device.
-/
module

public import proofs.«01_k».proof.Defs
public import proofs.«01_k».proof.Proof.Launch
public import proofs.«01_k».proof.Proof.Whole
public import Idealize.ShloMosaic.Lib.Quiescent

@[expose] public section

set_option maxRecDepth 16384

noncomputable section

namespace Cert.Halo

open Cert.KernelIdeal Cert.KernelIdeal.Gen
open Idealize.ShloMosaic Idealize.ShloMosaic.TcCoe Idealize.SL.Sem
open Idealize.ShloMosaic.Pointwise

variable {F : FTy → Type} [FloatOps F]
variable (m : (ℓ : Loc nD τ sig) → Buf (Elt F) ℓ) (ρ : Dev nD → PrngReg)

/-- The result buffer is the block that the body left. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => Nat.zero_mul _
  have hr := fun f => Memref.read_access_unit_zero (Elt F) main_v1 hz (fun a => by fin_cases a <;> decide) f
  exact (hr _).symm.trans h

/-- What a device stages is its argument. -/
theorem xstg_arg (c : Dev nD) : xstg m ρ c = m ((c : Thread nD τ).loc main_arg0) := by
  have hz : (fun a => (win0_0.index (0 : Fin 1)) a * main_arg0.ty.shape.size a) = fun _ => 0 :=
    funext fun a => Nat.zero_mul _
  exact Memref.read_access_unit_zero (Elt F) main_arg0 hz (fun a => by fin_cases a <;> decide) (m ((c : Thread nD τ).loc main_arg0))

/-- From memories that hold the blocks of `V`, every device's result is its block of the reference's result of `V`. -/
theorem out_eq (m : (ℓ : Loc nD τ sig) → Buf (Elt Ideal) ℓ) (V : Whole Ideal) (hm : ∀ c : Dev nD, m ((c : Thread nD τ).loc main_arg0) = part V c) (c : Dev nD) :
    outAt m ρ c = part (refOut V) c := by
  funext z
  obtain ⟨i, j, rfl⟩ : ∃ (i j : Fin 2048), z = ix2 i j := ⟨z 0, z 1, eq_ix2 z⟩
  rw [part_ix2, ← step_eq]
  have hx (d : Dev nD) : xstg m ρ d = part V d := (xstg_arg m ρ d).trans (hm d)
  show result c (xstg m ρ c) (rowEdge (peer false c) (xstg m ρ (peer false c))) (colEdge (peer true c) (xstg m ρ (peer true c))) (ix2 i j) = _
  rw [hx, hx, hx]
  exact result_part V c i j

/-- The reference leaves every counter at zero, since it has none. -/
theorem ref_quiet (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems rfl r.2⟩) (Cert.ReferenceIdeal.Value.run (F := Ideal) m g)

/-- The frame of the kernel, over any floats. -/
theorem kernel_quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- The kernel is the reference, block by block. -/
theorem value [Cert.KernelIdeal.Facts] [Cert.ReferenceIdeal.Facts] : Cert.algebraic_KernelIdeal_ReferenceIdeal := by
  intro m g m' g' _ hm
  refine ⟨refOut (m' (((0 : Dev Cert.ReferenceIdeal.nD).tc : Thread Cert.ReferenceIdeal.nD Cert.ReferenceIdeal.τ).loc Cert.ReferenceIdeal.main_arg0)),
    (θ_run defs _ _).mono (fun r h c => ⟨?_, (h.1 c (0 : Fin 2)).trans (finalA_x m g c)⟩) (run_main m g),
    (θ_run Cert.ReferenceIdeal.defs _ _).mono (fun r h => h 0) (Cert.ReferenceIdeal.Value.run (F := Ideal) m' g')⟩
  exact ((h.1 c (1 : Fin 2)).trans (finalA_out m g c)).trans (out_eq g m _ hm c)

end Cert.Halo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts

/-- The two programs have one text: their kernels' body tables are equal, -/
theorem bodies_eq : Cert.Kernel.defs₀ (F := Bits) = Cert.KernelIdeal.defs₀ (F := Bits) := by
  unfold Cert.Kernel.defs₀ Cert.KernelIdeal.defs₀
  refine congrArg _ (funext fun l => ?_)
  match l with
  | 0 => exact funext fun x => by obtain ⟨t, s⟩ := x; rfl

/-- and so are the tables with the regions and pipelines. -/
theorem tables_eq : Cert.Kernel.defs (F := Bits) = Cert.KernelIdeal.defs (F := Bits) := by
  unfold Cert.Kernel.defs Cert.KernelIdeal.defs
  exact congrArg (Pipeline.defs _) bodies_eq

/-- The five claims: the frames from the one run, the value claim from the elements. -/
theorem claim : Cert.Claim := ⟨Cert.Kernel.Gen.facts, Cert.KernelIdeal.Gen.facts, Cert.ReferenceIdeal.Gen.facts,
  fun m g _ => by rw [tables_eq]; exact Cert.Halo.kernel_quiet (F := Bits) m g,
  fun m g _ => Cert.Halo.kernel_quiet (F := Ideal) m g,
  fun m g _ => Cert.Halo.ref_quiet m g, trivial, Cert.Halo.value⟩

end Cert.Proof

end
